-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x16 : Shape := ⟨2, ![1000000, 16]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x16 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x16 : Shape := ⟨2, ![1000000, 16]⟩
abbrev S32x512 : Shape := ⟨2, ![32, 512]⟩
abbrev S16x1000000 : Shape := ⟨2, ![16, 1000000]⟩
abbrev S16x16384 : Shape := ⟨2, ![16, 16384]⟩
abbrev S512 : Shape := ⟨1, ![512]⟩
abbrev S32x16x16 : Shape := ⟨3, ![32, 16, 16]⟩
abbrev S16x512 : Shape := ⟨2, ![16, 512]⟩
abbrev S_ : Shape := ⟨0, ![]⟩
abbrev S1x512 : Shape := ⟨2, ![1, 512]⟩
abbrev S16 : Shape := ⟨1, ![16]⟩
abbrev S1x16x8 : Shape := ⟨3, ![1, 16, 8]⟩
abbrev S16x8 : Shape := ⟨2, ![16, 8]⟩
abbrev S16384x16 : Shape := ⟨2, ![16384, 16]⟩

abbrev nBuf : Table → Nat
  | .hbm => 6
  | .local .scVector .vmem => 3
  | _ => 0

abbrev bufTy : (tb : Table) → Fin (nBuf tb) → BufTy
  | .hbm, ⟨0, _⟩ => ⟨S16384, .i32⟩
  | .hbm, ⟨1, _⟩ => ⟨S1000000x16, .f32⟩
  | .hbm, ⟨2, _⟩ => ⟨S32x512, .i32⟩
  | .hbm, ⟨3, _⟩ => ⟨S16x1000000, .f32⟩
  | .hbm, ⟨4, _⟩ => ⟨S16x16384, .f32⟩
  | .hbm, ⟨5, _⟩ => ⟨S16384x16, .f32⟩
  | .local .scVector .vmem, ⟨0, _⟩ => ⟨S512, .i32⟩
  | .local .scVector .vmem, ⟨1, _⟩ => ⟨S32x16x16, .f32⟩
  | .local .scVector .vmem, ⟨2, _⟩ => ⟨S16x512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  ![v1.toNat, 0]
@[reducible] def k0_t1_loop : Scf.Loop 32 :=
  let c0_i32_0 : BitVec 32 := 0#32
  let c16_i32 : BitVec 32 := 16#32
  let v4 : BitVec 32 := Scalar.addi c0_i32_0 c16_i32
  let c1_i32 : BitVec 32 := 1#32
  ⟨c0_i32_0, v4, c1_i32⟩
def k0_off2 (k0_t1 : Fin k0_t1_loop.trips) (c0_i32_2 : BitVec 32) : Fin 1 → Nat :=
  let c0_i32_0 : BitVec 32 := 0#32
  let c1_i32 : BitVec 32 := 1#32
  let arg9 : BitVec 32 := Scf.iv c0_i32_0 c1_i32 k0_t1
  let c32_i32 : BitVec 32 := 32#32
  let v5 : BitVec 32 := Scalar.muli arg9 c32_i32
  let v6 : BitVec 32 := Scalar.addi v5 c0_i32_2
  let v7 : Index := Scalar.indexCast v6
  ![v7.toNat]
def k0_mult1 (v19 : BitVec 32) : BitVec 32 :=
  let c_m8_i32 : BitVec 32 := 4294967288#32
  let v20 : BitVec 32 := Scalar.andi v19 c_m8_i32
  v20

def k0_off3 (v19 : BitVec 32) : Fin 2 → Nat :=
  let c0_i32_10 : BitVec 32 := 0#32
  let c_m8_i32 : BitVec 32 := 4294967288#32
  let v20 : BitVec 32 := Scalar.andi v19 c_m8_i32
  let v21 : BitVec 32 := v20
  ![0, v21.toNat]
def k0_mult2 (v34 : BitVec 32) : BitVec 32 :=
  let c_m8_i32_17 : BitVec 32 := 4294967288#32
  let v35 : BitVec 32 := Scalar.andi v34 c_m8_i32_17
  v35

def k0_off4 (v34 : BitVec 32) : Fin 2 → Nat :=
  let c0_i32_21 : BitVec 32 := 0#32
  let c_m8_i32_17 : BitVec 32 := 4294967288#32
  let v35 : BitVec 32 := Scalar.andi v34 c_m8_i32_17
  let v36 : BitVec 32 := v35
  ![0, v36.toNat]
def k0_mult3 (v49 : BitVec 32) : BitVec 32 :=
  let c_m8_i32_28 : BitVec 32 := 4294967288#32
  let v50 : BitVec 32 := Scalar.andi v49 c_m8_i32_28
  v50

def k0_off5 (v49 : BitVec 32) : Fin 2 → Nat :=
  let c0_i32_32 : BitVec 32 := 0#32
  let c_m8_i32_28 : BitVec 32 := 4294967288#32
  let v50 : BitVec 32 := Scalar.andi v49 c_m8_i32_28
  let v51 : BitVec 32 := v50
  ![0, v51.toNat]
def k0_mult4 (v64 : BitVec 32) : BitVec 32 :=
  let c_m8_i32_38 : BitVec 32 := 4294967288#32
  let v65 : BitVec 32 := Scalar.andi v64 c_m8_i32_38
  v65

def k0_off6 (v64 : BitVec 32) : Fin 2 → Nat :=
  let c0_i32_42 : BitVec 32 := 0#32
  let c_m8_i32_38 : BitVec 32 := 4294967288#32
  let v65 : BitVec 32 := Scalar.andi v64 c_m8_i32_38
  let v66 : BitVec 32 := v65
  ![0, v66.toNat]
def k0_mult5 (v79 : BitVec 32) : BitVec 32 :=
  let c_m8_i32_48 : BitVec 32 := 4294967288#32
  let v80 : BitVec 32 := Scalar.andi v79 c_m8_i32_48
  v80

def k0_off7 (v79 : BitVec 32) : Fin 2 → Nat :=
  let c0_i32_52 : BitVec 32 := 0#32
  let c_m8_i32_48 : BitVec 32 := 4294967288#32
  let v80 : BitVec 32 := Scalar.andi v79 c_m8_i32_48
  let v81 : BitVec 32 := v80
  ![0, v81.toNat]
def k0_mult6 (v94 : BitVec 32) : BitVec 32 :=
  let c_m8_i32_58 : BitVec 32 := 4294967288#32
  let v95 : BitVec 32 := Scalar.andi v94 c_m8_i32_58
  v95

def k0_off8 (v94 : BitVec 32) : Fin 2 → Nat :=
  let c0_i32_62 : BitVec 32 := 0#32
  let c_m8_i32_58 : BitVec 32 := 4294967288#32
  let v95 : BitVec 32 := Scalar.andi v94 c_m8_i32_58
  let v96 : BitVec 32 := v95
  ![0, v96.toNat]
def k0_mult7 (v109 : BitVec 32) : BitVec 32 :=
  let c_m8_i32_68 : BitVec 32 := 4294967288#32
  let v110 : BitVec 32 := Scalar.andi v109 c_m8_i32_68
  v110

def k0_off9 (v109 : BitVec 32) : Fin 2 → Nat :=
  let c0_i32_72 : BitVec 32 := 0#32
  let c_m8_i32_68 : BitVec 32 := 4294967288#32
  let v110 : BitVec 32 := Scalar.andi v109 c_m8_i32_68
  let v111 : BitVec 32 := v110
  ![0, v111.toNat]
def k0_mult8 (v124 : BitVec 32) : BitVec 32 :=
  let c_m8_i32_78 : BitVec 32 := 4294967288#32
  let v125 : BitVec 32 := Scalar.andi v124 c_m8_i32_78
  v125

def k0_off10 (v124 : BitVec 32) : Fin 2 → Nat :=
  let c0_i32_82 : BitVec 32 := 0#32
  let c_m8_i32_78 : BitVec 32 := 4294967288#32
  let v125 : BitVec 32 := Scalar.andi v124 c_m8_i32_78
  let v126 : BitVec 32 := v125
  ![0, v126.toNat]
def k0_mult9 (v139 : BitVec 32) : BitVec 32 :=
  let c_m8_i32_88 : BitVec 32 := 4294967288#32
  let v140 : BitVec 32 := Scalar.andi v139 c_m8_i32_88
  v140

def k0_off11 (v139 : BitVec 32) : Fin 2 → Nat :=
  let c0_i32_92 : BitVec 32 := 0#32
  let c_m8_i32_88 : BitVec 32 := 4294967288#32
  let v140 : BitVec 32 := Scalar.andi v139 c_m8_i32_88
  let v141 : BitVec 32 := v140
  ![0, v141.toNat]
def k0_mult10 (v154 : BitVec 32) : BitVec 32 :=
  let c_m8_i32_98 : BitVec 32 := 4294967288#32
  let v155 : BitVec 32 := Scalar.andi v154 c_m8_i32_98
  v155

def k0_off12 (v154 : BitVec 32) : Fin 2 → Nat :=
  let c0_i32_102 : BitVec 32 := 0#32
  let c_m8_i32_98 : BitVec 32 := 4294967288#32
  let v155 : BitVec 32 := Scalar.andi v154 c_m8_i32_98
  let v156 : BitVec 32 := v155
  ![0, v156.toNat]
def k0_mult11 (v169 : BitVec 32) : BitVec 32 :=
  let c_m8_i32_108 : BitVec 32 := 4294967288#32
  let v170 : BitVec 32 := Scalar.andi v169 c_m8_i32_108
  v170

def k0_off13 (v169 : BitVec 32) : Fin 2 → Nat :=
  let c0_i32_112 : BitVec 32 := 0#32
  let c_m8_i32_108 : BitVec 32 := 4294967288#32
  let v170 : BitVec 32 := Scalar.andi v169 c_m8_i32_108
  let v171 : BitVec 32 := v170
  ![0, v171.toNat]
def k0_mult12 (v184 : BitVec 32) : BitVec 32 :=
  let c_m8_i32_118 : BitVec 32 := 4294967288#32
  let v185 : BitVec 32 := Scalar.andi v184 c_m8_i32_118
  v185

def k0_off14 (v184 : BitVec 32) : Fin 2 → Nat :=
  let c0_i32_122 : BitVec 32 := 0#32
  let c_m8_i32_118 : BitVec 32 := 4294967288#32
  let v185 : BitVec 32 := Scalar.andi v184 c_m8_i32_118
  let v186 : BitVec 32 := v185
  ![0, v186.toNat]
def k0_mult13 (v199 : BitVec 32) : BitVec 32 :=
  let c_m8_i32_128 : BitVec 32 := 4294967288#32
  let v200 : BitVec 32 := Scalar.andi v199 c_m8_i32_128
  v200

def k0_off15 (v199 : BitVec 32) : Fin 2 → Nat :=
  let c0_i32_132 : BitVec 32 := 0#32
  let c_m8_i32_128 : BitVec 32 := 4294967288#32
  let v200 : BitVec 32 := Scalar.andi v199 c_m8_i32_128
  let v201 : BitVec 32 := v200
  ![0, v201.toNat]
def k0_mult14 (v214 : BitVec 32) : BitVec 32 :=
  let c_m8_i32_138 : BitVec 32 := 4294967288#32
  let v215 : BitVec 32 := Scalar.andi v214 c_m8_i32_138
  v215

def k0_off16 (v214 : BitVec 32) : Fin 2 → Nat :=
  let c0_i32_142 : BitVec 32 := 0#32
  let c_m8_i32_138 : BitVec 32 := 4294967288#32
  let v215 : BitVec 32 := Scalar.andi v214 c_m8_i32_138
  let v216 : BitVec 32 := v215
  ![0, v216.toNat]
def k0_mult15 (v229 : BitVec 32) : BitVec 32 :=
  let c_m8_i32_148 : BitVec 32 := 4294967288#32
  let v230 : BitVec 32 := Scalar.andi v229 c_m8_i32_148
  v230

def k0_off17 (v229 : BitVec 32) : Fin 2 → Nat :=
  let c0_i32_152 : BitVec 32 := 0#32
  let c_m8_i32_148 : BitVec 32 := 4294967288#32
  let v230 : BitVec 32 := Scalar.andi v229 c_m8_i32_148
  let v231 : BitVec 32 := v230
  ![0, v231.toNat]
def k0_mult16 (v244 : BitVec 32) : BitVec 32 :=
  let c_m8_i32_158 : BitVec 32 := 4294967288#32
  let v245 : BitVec 32 := Scalar.andi v244 c_m8_i32_158
  v245

def k0_off18 (v244 : BitVec 32) : Fin 2 → Nat :=
  let c0_i32_162 : BitVec 32 := 0#32
  let c_m8_i32_158 : BitVec 32 := 4294967288#32
  let v245 : BitVec 32 := Scalar.andi v244 c_m8_i32_158
  let v246 : BitVec 32 := v245
  ![0, v246.toNat]
def k0_mult17 (v259 : BitVec 32) : BitVec 32 :=
  let c_m8_i32_169 : BitVec 32 := 4294967288#32
  let v260 : BitVec 32 := Scalar.andi v259 c_m8_i32_169
  v260

def k0_off19 (v259 : BitVec 32) : Fin 2 → Nat :=
  let c0_i32_173 : BitVec 32 := 0#32
  let c_m8_i32_169 : BitVec 32 := 4294967288#32
  let v260 : BitVec 32 := Scalar.andi v259 c_m8_i32_169
  let v261 : BitVec 32 := v260
  ![0, v261.toNat]
def k0_mult18 (v274 : BitVec 32) : BitVec 32 :=
  let c_m8_i32_180 : BitVec 32 := 4294967288#32
  let v275 : BitVec 32 := Scalar.andi v274 c_m8_i32_180
  v275

def k0_off20 (v274 : BitVec 32) : Fin 2 → Nat :=
  let c0_i32_183 : BitVec 32 := 0#32
  let c_m8_i32_180 : BitVec 32 := 4294967288#32
  let v275 : BitVec 32 := Scalar.andi v274 c_m8_i32_180
  let v276 : BitVec 32 := v275
  ![0, v276.toNat]
def k0_mult19 (v289 : BitVec 32) : BitVec 32 :=
  let c_m8_i32_190 : BitVec 32 := 4294967288#32
  let v290 : BitVec 32 := Scalar.andi v289 c_m8_i32_190
  v290

def k0_off21 (v289 : BitVec 32) : Fin 2 → Nat :=
  let c0_i32_193 : BitVec 32 := 0#32
  let c_m8_i32_190 : BitVec 32 := 4294967288#32
  let v290 : BitVec 32 := Scalar.andi v289 c_m8_i32_190
  let v291 : BitVec 32 := v290
  ![0, v291.toNat]
def k0_mult20 (v304 : BitVec 32) : BitVec 32 :=
  let c_m8_i32_200 : BitVec 32 := 4294967288#32
  let v305 : BitVec 32 := Scalar.andi v304 c_m8_i32_200
  v305

def k0_off22 (v304 : BitVec 32) : Fin 2 → Nat :=
  let c0_i32_203 : BitVec 32 := 0#32
  let c_m8_i32_200 : BitVec 32 := 4294967288#32
  let v305 : BitVec 32 := Scalar.andi v304 c_m8_i32_200
  let v306 : BitVec 32 := v305
  ![0, v306.toNat]
def k0_mult21 (v319 : BitVec 32) : BitVec 32 :=
  let c_m8_i32_210 : BitVec 32 := 4294967288#32
  let v320 : BitVec 32 := Scalar.andi v319 c_m8_i32_210
  v320

def k0_off23 (v319 : BitVec 32) : Fin 2 → Nat :=
  let c0_i32_213 : BitVec 32 := 0#32
  let c_m8_i32_210 : BitVec 32 := 4294967288#32
  let v320 : BitVec 32 := Scalar.andi v319 c_m8_i32_210
  let v321 : BitVec 32 := v320
  ![0, v321.toNat]
def k0_mult22 (v334 : BitVec 32) : BitVec 32 :=
  let c_m8_i32_220 : BitVec 32 := 4294967288#32
  let v335 : BitVec 32 := Scalar.andi v334 c_m8_i32_220
  v335

def k0_off24 (v334 : BitVec 32) : Fin 2 → Nat :=
  let c0_i32_223 : BitVec 32 := 0#32
  let c_m8_i32_220 : BitVec 32 := 4294967288#32
  let v335 : BitVec 32 := Scalar.andi v334 c_m8_i32_220
  let v336 : BitVec 32 := v335
  ![0, v336.toNat]
def k0_mult23 (v349 : BitVec 32) : BitVec 32 :=
  let c_m8_i32_230 : BitVec 32 := 4294967288#32
  let v350 : BitVec 32 := Scalar.andi v349 c_m8_i32_230
  v350

def k0_off25 (v349 : BitVec 32) : Fin 2 → Nat :=
  let c0_i32_233 : BitVec 32 := 0#32
  let c_m8_i32_230 : BitVec 32 := 4294967288#32
  let v350 : BitVec 32 := Scalar.andi v349 c_m8_i32_230
  let v351 : BitVec 32 := v350
  ![0, v351.toNat]
def k0_mult24 (v364 : BitVec 32) : BitVec 32 :=
  let c_m8_i32_240 : BitVec 32 := 4294967288#32
  let v365 : BitVec 32 := Scalar.andi v364 c_m8_i32_240
  v365

def k0_off26 (v364 : BitVec 32) : Fin 2 → Nat :=
  let c0_i32_243 : BitVec 32 := 0#32
  let c_m8_i32_240 : BitVec 32 := 4294967288#32
  let v365 : BitVec 32 := Scalar.andi v364 c_m8_i32_240
  let v366 : BitVec 32 := v365
  ![0, v366.toNat]
def k0_mult25 (v379 : BitVec 32) : BitVec 32 :=
  let c_m8_i32_250 : BitVec 32 := 4294967288#32
  let v380 : BitVec 32 := Scalar.andi v379 c_m8_i32_250
  v380

def k0_off27 (v379 : BitVec 32) : Fin 2 → Nat :=
  let c0_i32_253 : BitVec 32 := 0#32
  let c_m8_i32_250 : BitVec 32 := 4294967288#32
  let v380 : BitVec 32 := Scalar.andi v379 c_m8_i32_250
  let v381 : BitVec 32 := v380
  ![0, v381.toNat]
def k0_mult26 (v394 : BitVec 32) : BitVec 32 :=
  let c_m8_i32_260 : BitVec 32 := 4294967288#32
  let v395 : BitVec 32 := Scalar.andi v394 c_m8_i32_260
  v395

def k0_off28 (v394 : BitVec 32) : Fin 2 → Nat :=
  let c0_i32_263 : BitVec 32 := 0#32
  let c_m8_i32_260 : BitVec 32 := 4294967288#32
  let v395 : BitVec 32 := Scalar.andi v394 c_m8_i32_260
  let v396 : BitVec 32 := v395
  ![0, v396.toNat]
def k0_mult27 (v409 : BitVec 32) : BitVec 32 :=
  let c_m8_i32_270 : BitVec 32 := 4294967288#32
  let v410 : BitVec 32 := Scalar.andi v409 c_m8_i32_270
  v410

def k0_off29 (v409 : BitVec 32) : Fin 2 → Nat :=
  let c0_i32_273 : BitVec 32 := 0#32
  let c_m8_i32_270 : BitVec 32 := 4294967288#32
  let v410 : BitVec 32 := Scalar.andi v409 c_m8_i32_270
  let v411 : BitVec 32 := v410
  ![0, v411.toNat]
def k0_mult28 (v424 : BitVec 32) : BitVec 32 :=
  let c_m8_i32_280 : BitVec 32 := 4294967288#32
  let v425 : BitVec 32 := Scalar.andi v424 c_m8_i32_280
  v425

def k0_off30 (v424 : BitVec 32) : Fin 2 → Nat :=
  let c0_i32_283 : BitVec 32 := 0#32
  let c_m8_i32_280 : BitVec 32 := 4294967288#32
  let v425 : BitVec 32 := Scalar.andi v424 c_m8_i32_280
  let v426 : BitVec 32 := v425
  ![0, v426.toNat]
def k0_mult29 (v439 : BitVec 32) : BitVec 32 :=
  let c_m8_i32_290 : BitVec 32 := 4294967288#32
  let v440 : BitVec 32 := Scalar.andi v439 c_m8_i32_290
  v440

def k0_off31 (v439 : BitVec 32) : Fin 2 → Nat :=
  let c0_i32_293 : BitVec 32 := 0#32
  let c_m8_i32_290 : BitVec 32 := 4294967288#32
  let v440 : BitVec 32 := Scalar.andi v439 c_m8_i32_290
  let v441 : BitVec 32 := v440
  ![0, v441.toNat]
def k0_mult30 (v454 : BitVec 32) : BitVec 32 :=
  let c_m8_i32_300 : BitVec 32 := 4294967288#32
  let v455 : BitVec 32 := Scalar.andi v454 c_m8_i32_300
  v455

def k0_off32 (v454 : BitVec 32) : Fin 2 → Nat :=
  let c0_i32_303 : BitVec 32 := 0#32
  let c_m8_i32_300 : BitVec 32 := 4294967288#32
  let v455 : BitVec 32 := Scalar.andi v454 c_m8_i32_300
  let v456 : BitVec 32 := v455
  ![0, v456.toNat]
def k0_mult31 (v469 : BitVec 32) : BitVec 32 :=
  let c_m8_i32_310 : BitVec 32 := 4294967288#32
  let v470 : BitVec 32 := Scalar.andi v469 c_m8_i32_310
  v470

def k0_off33 (v469 : BitVec 32) : Fin 2 → Nat :=
  let c0_i32_313 : BitVec 32 := 0#32
  let c_m8_i32_310 : BitVec 32 := 4294967288#32
  let v470 : BitVec 32 := Scalar.andi v469 c_m8_i32_310
  let v471 : BitVec 32 := v470
  ![0, v471.toNat]
def k0_mult32 (v484 : BitVec 32) : BitVec 32 :=
  let c_m8_i32_320 : BitVec 32 := 4294967288#32
  let v485 : BitVec 32 := Scalar.andi v484 c_m8_i32_320
  v485

def k0_off34 (v484 : BitVec 32) : Fin 2 → Nat :=
  let c0_i32_323 : BitVec 32 := 0#32
  let c_m8_i32_320 : BitVec 32 := 4294967288#32
  let v485 : BitVec 32 := Scalar.andi v484 c_m8_i32_320
  let v486 : BitVec 32 := v485
  ![0, v486.toNat]

def k0_chk32 (v484 : BitVec 32) : Prop :=
  (8 ∣ (k0_mult32 v484).toNat) ∧
  (∀ a, (k0_off34 v484) a + S16x8.size a ≤ S16x1000000.size a)
theorem k0_mult32_dvd : ∀ (v484 : BitVec 32) (k0_hw32 : k0_chk32 v484), 8 ∣ (k0_mult32 v484).toNat := fun v484 k0_hw32 => k0_hw32.1
theorem k0_off34_inb : ∀ (v484 : BitVec 32) (k0_hw32 : k0_chk32 v484), ∀ a, (k0_off34 v484) a + S16x8.size a ≤ S16x1000000.size a := fun v484 k0_hw32 => k0_hw32.2

def k0_off35 (v19 : BitVec 32) : Fin 2 → Nat :=
  let c0_i32_330 : BitVec 32 := 0#32
  let c_m8_i32 : BitVec 32 := 4294967288#32
  let v20 : BitVec 32 := Scalar.andi v19 c_m8_i32
  let v21 : BitVec 32 := v20
  ![0, v21.toNat]

def k0_chk1 (v19 : BitVec 32) : Prop :=
  (8 ∣ (k0_mult1 v19).toNat) ∧
  (∀ a, (k0_off3 v19) a + S16x8.size a ≤ S16x1000000.size a) ∧
  (∀ a, (k0_off35 v19) a + S16x8.size a ≤ S16x1000000.size a)
theorem k0_mult1_dvd : ∀ (v19 : BitVec 32) (k0_hw1 : k0_chk1 v19), 8 ∣ (k0_mult1 v19).toNat := fun v19 k0_hw1 => k0_hw1.1
theorem k0_off3_inb : ∀ (v19 : BitVec 32) (k0_hw1 : k0_chk1 v19), ∀ a, (k0_off3 v19) a + S16x8.size a ≤ S16x1000000.size a := fun v19 k0_hw1 => k0_hw1.2.1
theorem k0_off35_inb : ∀ (v19 : BitVec 32) (k0_hw1 : k0_chk1 v19), ∀ a, (k0_off35 v19) a + S16x8.size a ≤ S16x1000000.size a := fun v19 k0_hw1 => k0_hw1.2.2

def k0_off36 (v34 : BitVec 32) : Fin 2 → Nat :=
  let c0_i32_337 : BitVec 32 := 0#32
  let c_m8_i32_17 : BitVec 32 := 4294967288#32
  let v35 : BitVec 32 := Scalar.andi v34 c_m8_i32_17
  let v36 : BitVec 32 := v35
  ![0, v36.toNat]

def k0_chk2 (v34 : BitVec 32) : Prop :=
  (8 ∣ (k0_mult2 v34).toNat) ∧
  (∀ a, (k0_off4 v34) a + S16x8.size a ≤ S16x1000000.size a) ∧
  (∀ a, (k0_off36 v34) a + S16x8.size a ≤ S16x1000000.size a)
theorem k0_mult2_dvd : ∀ (v34 : BitVec 32) (k0_hw2 : k0_chk2 v34), 8 ∣ (k0_mult2 v34).toNat := fun v34 k0_hw2 => k0_hw2.1
theorem k0_off4_inb : ∀ (v34 : BitVec 32) (k0_hw2 : k0_chk2 v34), ∀ a, (k0_off4 v34) a + S16x8.size a ≤ S16x1000000.size a := fun v34 k0_hw2 => k0_hw2.2.1
theorem k0_off36_inb : ∀ (v34 : BitVec 32) (k0_hw2 : k0_chk2 v34), ∀ a, (k0_off36 v34) a + S16x8.size a ≤ S16x1000000.size a := fun v34 k0_hw2 => k0_hw2.2.2

def k0_off37 (v49 : BitVec 32) : Fin 2 → Nat :=
  let c0_i32_344 : BitVec 32 := 0#32
  let c_m8_i32_28 : BitVec 32 := 4294967288#32
  let v50 : BitVec 32 := Scalar.andi v49 c_m8_i32_28
  let v51 : BitVec 32 := v50
  ![0, v51.toNat]

def k0_chk3 (v49 : BitVec 32) : Prop :=
  (8 ∣ (k0_mult3 v49).toNat) ∧
  (∀ a, (k0_off5 v49) a + S16x8.size a ≤ S16x1000000.size a) ∧
  (∀ a, (k0_off37 v49) a + S16x8.size a ≤ S16x1000000.size a)
theorem k0_mult3_dvd : ∀ (v49 : BitVec 32) (k0_hw3 : k0_chk3 v49), 8 ∣ (k0_mult3 v49).toNat := fun v49 k0_hw3 => k0_hw3.1
theorem k0_off5_inb : ∀ (v49 : BitVec 32) (k0_hw3 : k0_chk3 v49), ∀ a, (k0_off5 v49) a + S16x8.size a ≤ S16x1000000.size a := fun v49 k0_hw3 => k0_hw3.2.1
theorem k0_off37_inb : ∀ (v49 : BitVec 32) (k0_hw3 : k0_chk3 v49), ∀ a, (k0_off37 v49) a + S16x8.size a ≤ S16x1000000.size a := fun v49 k0_hw3 => k0_hw3.2.2

def k0_off38 (v64 : BitVec 32) : Fin 2 → Nat :=
  let c0_i32_351 : BitVec 32 := 0#32
  let c_m8_i32_38 : BitVec 32 := 4294967288#32
  let v65 : BitVec 32 := Scalar.andi v64 c_m8_i32_38
  let v66 : BitVec 32 := v65
  ![0, v66.toNat]

def k0_chk4 (v64 : BitVec 32) : Prop :=
  (8 ∣ (k0_mult4 v64).toNat) ∧
  (∀ a, (k0_off6 v64) a + S16x8.size a ≤ S16x1000000.size a) ∧
  (∀ a, (k0_off38 v64) a + S16x8.size a ≤ S16x1000000.size a)
theorem k0_mult4_dvd : ∀ (v64 : BitVec 32) (k0_hw4 : k0_chk4 v64), 8 ∣ (k0_mult4 v64).toNat := fun v64 k0_hw4 => k0_hw4.1
theorem k0_off6_inb : ∀ (v64 : BitVec 32) (k0_hw4 : k0_chk4 v64), ∀ a, (k0_off6 v64) a + S16x8.size a ≤ S16x1000000.size a := fun v64 k0_hw4 => k0_hw4.2.1
theorem k0_off38_inb : ∀ (v64 : BitVec 32) (k0_hw4 : k0_chk4 v64), ∀ a, (k0_off38 v64) a + S16x8.size a ≤ S16x1000000.size a := fun v64 k0_hw4 => k0_hw4.2.2

def k0_off39 (v79 : BitVec 32) : Fin 2 → Nat :=
  let c0_i32_358 : BitVec 32 := 0#32
  let c_m8_i32_48 : BitVec 32 := 4294967288#32
  let v80 : BitVec 32 := Scalar.andi v79 c_m8_i32_48
  let v81 : BitVec 32 := v80
  ![0, v81.toNat]

def k0_chk5 (v79 : BitVec 32) : Prop :=
  (8 ∣ (k0_mult5 v79).toNat) ∧
  (∀ a, (k0_off7 v79) a + S16x8.size a ≤ S16x1000000.size a) ∧
  (∀ a, (k0_off39 v79) a + S16x8.size a ≤ S16x1000000.size a)
theorem k0_mult5_dvd : ∀ (v79 : BitVec 32) (k0_hw5 : k0_chk5 v79), 8 ∣ (k0_mult5 v79).toNat := fun v79 k0_hw5 => k0_hw5.1
theorem k0_off7_inb : ∀ (v79 : BitVec 32) (k0_hw5 : k0_chk5 v79), ∀ a, (k0_off7 v79) a + S16x8.size a ≤ S16x1000000.size a := fun v79 k0_hw5 => k0_hw5.2.1
theorem k0_off39_inb : ∀ (v79 : BitVec 32) (k0_hw5 : k0_chk5 v79), ∀ a, (k0_off39 v79) a + S16x8.size a ≤ S16x1000000.size a := fun v79 k0_hw5 => k0_hw5.2.2

def k0_off40 (v94 : BitVec 32) : Fin 2 → Nat :=
  let c0_i32_365 : BitVec 32 := 0#32
  let c_m8_i32_58 : BitVec 32 := 4294967288#32
  let v95 : BitVec 32 := Scalar.andi v94 c_m8_i32_58
  let v96 : BitVec 32 := v95
  ![0, v96.toNat]

def k0_chk6 (v94 : BitVec 32) : Prop :=
  (8 ∣ (k0_mult6 v94).toNat) ∧
  (∀ a, (k0_off8 v94) a + S16x8.size a ≤ S16x1000000.size a) ∧
  (∀ a, (k0_off40 v94) a + S16x8.size a ≤ S16x1000000.size a)
theorem k0_mult6_dvd : ∀ (v94 : BitVec 32) (k0_hw6 : k0_chk6 v94), 8 ∣ (k0_mult6 v94).toNat := fun v94 k0_hw6 => k0_hw6.1
theorem k0_off8_inb : ∀ (v94 : BitVec 32) (k0_hw6 : k0_chk6 v94), ∀ a, (k0_off8 v94) a + S16x8.size a ≤ S16x1000000.size a := fun v94 k0_hw6 => k0_hw6.2.1
theorem k0_off40_inb : ∀ (v94 : BitVec 32) (k0_hw6 : k0_chk6 v94), ∀ a, (k0_off40 v94) a + S16x8.size a ≤ S16x1000000.size a := fun v94 k0_hw6 => k0_hw6.2.2

def k0_off41 (v109 : BitVec 32) : Fin 2 → Nat :=
  let c0_i32_372 : BitVec 32 := 0#32
  let c_m8_i32_68 : BitVec 32 := 4294967288#32
  let v110 : BitVec 32 := Scalar.andi v109 c_m8_i32_68
  let v111 : BitVec 32 := v110
  ![0, v111.toNat]

def k0_chk7 (v109 : BitVec 32) : Prop :=
  (8 ∣ (k0_mult7 v109).toNat) ∧
  (∀ a, (k0_off9 v109) a + S16x8.size a ≤ S16x1000000.size a) ∧
  (∀ a, (k0_off41 v109) a + S16x8.size a ≤ S16x1000000.size a)
theorem k0_mult7_dvd : ∀ (v109 : BitVec 32) (k0_hw7 : k0_chk7 v109), 8 ∣ (k0_mult7 v109).toNat := fun v109 k0_hw7 => k0_hw7.1
theorem k0_off9_inb : ∀ (v109 : BitVec 32) (k0_hw7 : k0_chk7 v109), ∀ a, (k0_off9 v109) a + S16x8.size a ≤ S16x1000000.size a := fun v109 k0_hw7 => k0_hw7.2.1
theorem k0_off41_inb : ∀ (v109 : BitVec 32) (k0_hw7 : k0_chk7 v109), ∀ a, (k0_off41 v109) a + S16x8.size a ≤ S16x1000000.size a := fun v109 k0_hw7 => k0_hw7.2.2

def k0_off42 (v124 : BitVec 32) : Fin 2 → Nat :=
  let c0_i32_379 : BitVec 32 := 0#32
  let c_m8_i32_78 : BitVec 32 := 4294967288#32
  let v125 : BitVec 32 := Scalar.andi v124 c_m8_i32_78
  let v126 : BitVec 32 := v125
  ![0, v126.toNat]

def k0_chk8 (v124 : BitVec 32) : Prop :=
  (8 ∣ (k0_mult8 v124).toNat) ∧
  (∀ a, (k0_off10 v124) a + S16x8.size a ≤ S16x1000000.size a) ∧
  (∀ a, (k0_off42 v124) a + S16x8.size a ≤ S16x1000000.size a)
theorem k0_mult8_dvd : ∀ (v124 : BitVec 32) (k0_hw8 : k0_chk8 v124), 8 ∣ (k0_mult8 v124).toNat := fun v124 k0_hw8 => k0_hw8.1
theorem k0_off10_inb : ∀ (v124 : BitVec 32) (k0_hw8 : k0_chk8 v124), ∀ a, (k0_off10 v124) a + S16x8.size a ≤ S16x1000000.size a := fun v124 k0_hw8 => k0_hw8.2.1
theorem k0_off42_inb : ∀ (v124 : BitVec 32) (k0_hw8 : k0_chk8 v124), ∀ a, (k0_off42 v124) a + S16x8.size a ≤ S16x1000000.size a := fun v124 k0_hw8 => k0_hw8.2.2

def k0_off43 (v139 : BitVec 32) : Fin 2 → Nat :=
  let c0_i32_386 : BitVec 32 := 0#32
  let c_m8_i32_88 : BitVec 32 := 4294967288#32
  let v140 : BitVec 32 := Scalar.andi v139 c_m8_i32_88
  let v141 : BitVec 32 := v140
  ![0, v141.toNat]

def k0_chk9 (v139 : BitVec 32) : Prop :=
  (8 ∣ (k0_mult9 v139).toNat) ∧
  (∀ a, (k0_off11 v139) a + S16x8.size a ≤ S16x1000000.size a) ∧
  (∀ a, (k0_off43 v139) a + S16x8.size a ≤ S16x1000000.size a)
theorem k0_mult9_dvd : ∀ (v139 : BitVec 32) (k0_hw9 : k0_chk9 v139), 8 ∣ (k0_mult9 v139).toNat := fun v139 k0_hw9 => k0_hw9.1
theorem k0_off11_inb : ∀ (v139 : BitVec 32) (k0_hw9 : k0_chk9 v139), ∀ a, (k0_off11 v139) a + S16x8.size a ≤ S16x1000000.size a := fun v139 k0_hw9 => k0_hw9.2.1
theorem k0_off43_inb : ∀ (v139 : BitVec 32) (k0_hw9 : k0_chk9 v139), ∀ a, (k0_off43 v139) a + S16x8.size a ≤ S16x1000000.size a := fun v139 k0_hw9 => k0_hw9.2.2

def k0_off44 (v154 : BitVec 32) : Fin 2 → Nat :=
  let c0_i32_393 : BitVec 32 := 0#32
  let c_m8_i32_98 : BitVec 32 := 4294967288#32
  let v155 : BitVec 32 := Scalar.andi v154 c_m8_i32_98
  let v156 : BitVec 32 := v155
  ![0, v156.toNat]

def k0_chk10 (v154 : BitVec 32) : Prop :=
  (8 ∣ (k0_mult10 v154).toNat) ∧
  (∀ a, (k0_off12 v154) a + S16x8.size a ≤ S16x1000000.size a) ∧
  (∀ a, (k0_off44 v154) a + S16x8.size a ≤ S16x1000000.size a)
theorem k0_mult10_dvd : ∀ (v154 : BitVec 32) (k0_hw10 : k0_chk10 v154), 8 ∣ (k0_mult10 v154).toNat := fun v154 k0_hw10 => k0_hw10.1
theorem k0_off12_inb : ∀ (v154 : BitVec 32) (k0_hw10 : k0_chk10 v154), ∀ a, (k0_off12 v154) a + S16x8.size a ≤ S16x1000000.size a := fun v154 k0_hw10 => k0_hw10.2.1
theorem k0_off44_inb : ∀ (v154 : BitVec 32) (k0_hw10 : k0_chk10 v154), ∀ a, (k0_off44 v154) a + S16x8.size a ≤ S16x1000000.size a := fun v154 k0_hw10 => k0_hw10.2.2

def k0_off45 (v169 : BitVec 32) : Fin 2 → Nat :=
  let c0_i32_400 : BitVec 32 := 0#32
  let c_m8_i32_108 : BitVec 32 := 4294967288#32
  let v170 : BitVec 32 := Scalar.andi v169 c_m8_i32_108
  let v171 : BitVec 32 := v170
  ![0, v171.toNat]

def k0_chk11 (v169 : BitVec 32) : Prop :=
  (8 ∣ (k0_mult11 v169).toNat) ∧
  (∀ a, (k0_off13 v169) a + S16x8.size a ≤ S16x1000000.size a) ∧
  (∀ a, (k0_off45 v169) a + S16x8.size a ≤ S16x1000000.size a)
theorem k0_mult11_dvd : ∀ (v169 : BitVec 32) (k0_hw11 : k0_chk11 v169), 8 ∣ (k0_mult11 v169).toNat := fun v169 k0_hw11 => k0_hw11.1
theorem k0_off13_inb : ∀ (v169 : BitVec 32) (k0_hw11 : k0_chk11 v169), ∀ a, (k0_off13 v169) a + S16x8.size a ≤ S16x1000000.size a := fun v169 k0_hw11 => k0_hw11.2.1
theorem k0_off45_inb : ∀ (v169 : BitVec 32) (k0_hw11 : k0_chk11 v169), ∀ a, (k0_off45 v169) a + S16x8.size a ≤ S16x1000000.size a := fun v169 k0_hw11 => k0_hw11.2.2

def k0_off46 (v184 : BitVec 32) : Fin 2 → Nat :=
  let c0_i32_407 : BitVec 32 := 0#32
  let c_m8_i32_118 : BitVec 32 := 4294967288#32
  let v185 : BitVec 32 := Scalar.andi v184 c_m8_i32_118
  let v186 : BitVec 32 := v185
  ![0, v186.toNat]

def k0_chk12 (v184 : BitVec 32) : Prop :=
  (8 ∣ (k0_mult12 v184).toNat) ∧
  (∀ a, (k0_off14 v184) a + S16x8.size a ≤ S16x1000000.size a) ∧
  (∀ a, (k0_off46 v184) a + S16x8.size a ≤ S16x1000000.size a)
theorem k0_mult12_dvd : ∀ (v184 : BitVec 32) (k0_hw12 : k0_chk12 v184), 8 ∣ (k0_mult12 v184).toNat := fun v184 k0_hw12 => k0_hw12.1
theorem k0_off14_inb : ∀ (v184 : BitVec 32) (k0_hw12 : k0_chk12 v184), ∀ a, (k0_off14 v184) a + S16x8.size a ≤ S16x1000000.size a := fun v184 k0_hw12 => k0_hw12.2.1
theorem k0_off46_inb : ∀ (v184 : BitVec 32) (k0_hw12 : k0_chk12 v184), ∀ a, (k0_off46 v184) a + S16x8.size a ≤ S16x1000000.size a := fun v184 k0_hw12 => k0_hw12.2.2

def k0_off47 (v199 : BitVec 32) : Fin 2 → Nat :=
  let c0_i32_414 : BitVec 32 := 0#32
  let c_m8_i32_128 : BitVec 32 := 4294967288#32
  let v200 : BitVec 32 := Scalar.andi v199 c_m8_i32_128
  let v201 : BitVec 32 := v200
  ![0, v201.toNat]

def k0_chk13 (v199 : BitVec 32) : Prop :=
  (8 ∣ (k0_mult13 v199).toNat) ∧
  (∀ a, (k0_off15 v199) a + S16x8.size a ≤ S16x1000000.size a) ∧
  (∀ a, (k0_off47 v199) a + S16x8.size a ≤ S16x1000000.size a)
theorem k0_mult13_dvd : ∀ (v199 : BitVec 32) (k0_hw13 : k0_chk13 v199), 8 ∣ (k0_mult13 v199).toNat := fun v199 k0_hw13 => k0_hw13.1
theorem k0_off15_inb : ∀ (v199 : BitVec 32) (k0_hw13 : k0_chk13 v199), ∀ a, (k0_off15 v199) a + S16x8.size a ≤ S16x1000000.size a := fun v199 k0_hw13 => k0_hw13.2.1
theorem k0_off47_inb : ∀ (v199 : BitVec 32) (k0_hw13 : k0_chk13 v199), ∀ a, (k0_off47 v199) a + S16x8.size a ≤ S16x1000000.size a := fun v199 k0_hw13 => k0_hw13.2.2

def k0_off48 (v214 : BitVec 32) : Fin 2 → Nat :=
  let c0_i32_421 : BitVec 32 := 0#32
  let c_m8_i32_138 : BitVec 32 := 4294967288#32
  let v215 : BitVec 32 := Scalar.andi v214 c_m8_i32_138
  let v216 : BitVec 32 := v215
  ![0, v216.toNat]

def k0_chk14 (v214 : BitVec 32) : Prop :=
  (8 ∣ (k0_mult14 v214).toNat) ∧
  (∀ a, (k0_off16 v214) a + S16x8.size a ≤ S16x1000000.size a) ∧
  (∀ a, (k0_off48 v214) a + S16x8.size a ≤ S16x1000000.size a)
theorem k0_mult14_dvd : ∀ (v214 : BitVec 32) (k0_hw14 : k0_chk14 v214), 8 ∣ (k0_mult14 v214).toNat := fun v214 k0_hw14 => k0_hw14.1
theorem k0_off16_inb : ∀ (v214 : BitVec 32) (k0_hw14 : k0_chk14 v214), ∀ a, (k0_off16 v214) a + S16x8.size a ≤ S16x1000000.size a := fun v214 k0_hw14 => k0_hw14.2.1
theorem k0_off48_inb : ∀ (v214 : BitVec 32) (k0_hw14 : k0_chk14 v214), ∀ a, (k0_off48 v214) a + S16x8.size a ≤ S16x1000000.size a := fun v214 k0_hw14 => k0_hw14.2.2

def k0_off49 (v229 : BitVec 32) : Fin 2 → Nat :=
  let c0_i32_428 : BitVec 32 := 0#32
  let c_m8_i32_148 : BitVec 32 := 4294967288#32
  let v230 : BitVec 32 := Scalar.andi v229 c_m8_i32_148
  let v231 : BitVec 32 := v230
  ![0, v231.toNat]

def k0_chk15 (v229 : BitVec 32) : Prop :=
  (8 ∣ (k0_mult15 v229).toNat) ∧
  (∀ a, (k0_off17 v229) a + S16x8.size a ≤ S16x1000000.size a) ∧
  (∀ a, (k0_off49 v229) a + S16x8.size a ≤ S16x1000000.size a)
theorem k0_mult15_dvd : ∀ (v229 : BitVec 32) (k0_hw15 : k0_chk15 v229), 8 ∣ (k0_mult15 v229).toNat := fun v229 k0_hw15 => k0_hw15.1
theorem k0_off17_inb : ∀ (v229 : BitVec 32) (k0_hw15 : k0_chk15 v229), ∀ a, (k0_off17 v229) a + S16x8.size a ≤ S16x1000000.size a := fun v229 k0_hw15 => k0_hw15.2.1
theorem k0_off49_inb : ∀ (v229 : BitVec 32) (k0_hw15 : k0_chk15 v229), ∀ a, (k0_off49 v229) a + S16x8.size a ≤ S16x1000000.size a := fun v229 k0_hw15 => k0_hw15.2.2

def k0_off50 (v244 : BitVec 32) : Fin 2 → Nat :=
  let c0_i32_435 : BitVec 32 := 0#32
  let c_m8_i32_158 : BitVec 32 := 4294967288#32
  let v245 : BitVec 32 := Scalar.andi v244 c_m8_i32_158
  let v246 : BitVec 32 := v245
  ![0, v246.toNat]

def k0_chk16 (v244 : BitVec 32) : Prop :=
  (8 ∣ (k0_mult16 v244).toNat) ∧
  (∀ a, (k0_off18 v244) a + S16x8.size a ≤ S16x1000000.size a) ∧
  (∀ a, (k0_off50 v244) a + S16x8.size a ≤ S16x1000000.size a)
theorem k0_mult16_dvd : ∀ (v244 : BitVec 32) (k0_hw16 : k0_chk16 v244), 8 ∣ (k0_mult16 v244).toNat := fun v244 k0_hw16 => k0_hw16.1
theorem k0_off18_inb : ∀ (v244 : BitVec 32) (k0_hw16 : k0_chk16 v244), ∀ a, (k0_off18 v244) a + S16x8.size a ≤ S16x1000000.size a := fun v244 k0_hw16 => k0_hw16.2.1
theorem k0_off50_inb : ∀ (v244 : BitVec 32) (k0_hw16 : k0_chk16 v244), ∀ a, (k0_off50 v244) a + S16x8.size a ≤ S16x1000000.size a := fun v244 k0_hw16 => k0_hw16.2.2

def k0_off51 (v259 : BitVec 32) : Fin 2 → Nat :=
  let c0_i32_442 : BitVec 32 := 0#32
  let c_m8_i32_169 : BitVec 32 := 4294967288#32
  let v260 : BitVec 32 := Scalar.andi v259 c_m8_i32_169
  let v261 : BitVec 32 := v260
  ![0, v261.toNat]

def k0_chk17 (v259 : BitVec 32) : Prop :=
  (8 ∣ (k0_mult17 v259).toNat) ∧
  (∀ a, (k0_off19 v259) a + S16x8.size a ≤ S16x1000000.size a) ∧
  (∀ a, (k0_off51 v259) a + S16x8.size a ≤ S16x1000000.size a)
theorem k0_mult17_dvd : ∀ (v259 : BitVec 32) (k0_hw17 : k0_chk17 v259), 8 ∣ (k0_mult17 v259).toNat := fun v259 k0_hw17 => k0_hw17.1
theorem k0_off19_inb : ∀ (v259 : BitVec 32) (k0_hw17 : k0_chk17 v259), ∀ a, (k0_off19 v259) a + S16x8.size a ≤ S16x1000000.size a := fun v259 k0_hw17 => k0_hw17.2.1
theorem k0_off51_inb : ∀ (v259 : BitVec 32) (k0_hw17 : k0_chk17 v259), ∀ a, (k0_off51 v259) a + S16x8.size a ≤ S16x1000000.size a := fun v259 k0_hw17 => k0_hw17.2.2

def k0_off52 (v274 : BitVec 32) : Fin 2 → Nat :=
  let c0_i32_449 : BitVec 32 := 0#32
  let c_m8_i32_180 : BitVec 32 := 4294967288#32
  let v275 : BitVec 32 := Scalar.andi v274 c_m8_i32_180
  let v276 : BitVec 32 := v275
  ![0, v276.toNat]

def k0_chk18 (v274 : BitVec 32) : Prop :=
  (8 ∣ (k0_mult18 v274).toNat) ∧
  (∀ a, (k0_off20 v274) a + S16x8.size a ≤ S16x1000000.size a) ∧
  (∀ a, (k0_off52 v274) a + S16x8.size a ≤ S16x1000000.size a)
theorem k0_mult18_dvd : ∀ (v274 : BitVec 32) (k0_hw18 : k0_chk18 v274), 8 ∣ (k0_mult18 v274).toNat := fun v274 k0_hw18 => k0_hw18.1
theorem k0_off20_inb : ∀ (v274 : BitVec 32) (k0_hw18 : k0_chk18 v274), ∀ a, (k0_off20 v274) a + S16x8.size a ≤ S16x1000000.size a := fun v274 k0_hw18 => k0_hw18.2.1
theorem k0_off52_inb : ∀ (v274 : BitVec 32) (k0_hw18 : k0_chk18 v274), ∀ a, (k0_off52 v274) a + S16x8.size a ≤ S16x1000000.size a := fun v274 k0_hw18 => k0_hw18.2.2

def k0_off53 (v289 : BitVec 32) : Fin 2 → Nat :=
  let c0_i32_456 : BitVec 32 := 0#32
  let c_m8_i32_190 : BitVec 32 := 4294967288#32
  let v290 : BitVec 32 := Scalar.andi v289 c_m8_i32_190
  let v291 : BitVec 32 := v290
  ![0, v291.toNat]

def k0_chk19 (v289 : BitVec 32) : Prop :=
  (8 ∣ (k0_mult19 v289).toNat) ∧
  (∀ a, (k0_off21 v289) a + S16x8.size a ≤ S16x1000000.size a) ∧
  (∀ a, (k0_off53 v289) a + S16x8.size a ≤ S16x1000000.size a)
theorem k0_mult19_dvd : ∀ (v289 : BitVec 32) (k0_hw19 : k0_chk19 v289), 8 ∣ (k0_mult19 v289).toNat := fun v289 k0_hw19 => k0_hw19.1
theorem k0_off21_inb : ∀ (v289 : BitVec 32) (k0_hw19 : k0_chk19 v289), ∀ a, (k0_off21 v289) a + S16x8.size a ≤ S16x1000000.size a := fun v289 k0_hw19 => k0_hw19.2.1
theorem k0_off53_inb : ∀ (v289 : BitVec 32) (k0_hw19 : k0_chk19 v289), ∀ a, (k0_off53 v289) a + S16x8.size a ≤ S16x1000000.size a := fun v289 k0_hw19 => k0_hw19.2.2

def k0_off54 (v304 : BitVec 32) : Fin 2 → Nat :=
  let c0_i32_463 : BitVec 32 := 0#32
  let c_m8_i32_200 : BitVec 32 := 4294967288#32
  let v305 : BitVec 32 := Scalar.andi v304 c_m8_i32_200
  let v306 : BitVec 32 := v305
  ![0, v306.toNat]

def k0_chk20 (v304 : BitVec 32) : Prop :=
  (8 ∣ (k0_mult20 v304).toNat) ∧
  (∀ a, (k0_off22 v304) a + S16x8.size a ≤ S16x1000000.size a) ∧
  (∀ a, (k0_off54 v304) a + S16x8.size a ≤ S16x1000000.size a)
theorem k0_mult20_dvd : ∀ (v304 : BitVec 32) (k0_hw20 : k0_chk20 v304), 8 ∣ (k0_mult20 v304).toNat := fun v304 k0_hw20 => k0_hw20.1
theorem k0_off22_inb : ∀ (v304 : BitVec 32) (k0_hw20 : k0_chk20 v304), ∀ a, (k0_off22 v304) a + S16x8.size a ≤ S16x1000000.size a := fun v304 k0_hw20 => k0_hw20.2.1
theorem k0_off54_inb : ∀ (v304 : BitVec 32) (k0_hw20 : k0_chk20 v304), ∀ a, (k0_off54 v304) a + S16x8.size a ≤ S16x1000000.size a := fun v304 k0_hw20 => k0_hw20.2.2

def k0_off55 (v319 : BitVec 32) : Fin 2 → Nat :=
  let c0_i32_470 : BitVec 32 := 0#32
  let c_m8_i32_210 : BitVec 32 := 4294967288#32
  let v320 : BitVec 32 := Scalar.andi v319 c_m8_i32_210
  let v321 : BitVec 32 := v320
  ![0, v321.toNat]

def k0_chk21 (v319 : BitVec 32) : Prop :=
  (8 ∣ (k0_mult21 v319).toNat) ∧
  (∀ a, (k0_off23 v319) a + S16x8.size a ≤ S16x1000000.size a) ∧
  (∀ a, (k0_off55 v319) a + S16x8.size a ≤ S16x1000000.size a)
theorem k0_mult21_dvd : ∀ (v319 : BitVec 32) (k0_hw21 : k0_chk21 v319), 8 ∣ (k0_mult21 v319).toNat := fun v319 k0_hw21 => k0_hw21.1
theorem k0_off23_inb : ∀ (v319 : BitVec 32) (k0_hw21 : k0_chk21 v319), ∀ a, (k0_off23 v319) a + S16x8.size a ≤ S16x1000000.size a := fun v319 k0_hw21 => k0_hw21.2.1
theorem k0_off55_inb : ∀ (v319 : BitVec 32) (k0_hw21 : k0_chk21 v319), ∀ a, (k0_off55 v319) a + S16x8.size a ≤ S16x1000000.size a := fun v319 k0_hw21 => k0_hw21.2.2

def k0_off56 (v334 : BitVec 32) : Fin 2 → Nat :=
  let c0_i32_477 : BitVec 32 := 0#32
  let c_m8_i32_220 : BitVec 32 := 4294967288#32
  let v335 : BitVec 32 := Scalar.andi v334 c_m8_i32_220
  let v336 : BitVec 32 := v335
  ![0, v336.toNat]

def k0_chk22 (v334 : BitVec 32) : Prop :=
  (8 ∣ (k0_mult22 v334).toNat) ∧
  (∀ a, (k0_off24 v334) a + S16x8.size a ≤ S16x1000000.size a) ∧
  (∀ a, (k0_off56 v334) a + S16x8.size a ≤ S16x1000000.size a)
theorem k0_mult22_dvd : ∀ (v334 : BitVec 32) (k0_hw22 : k0_chk22 v334), 8 ∣ (k0_mult22 v334).toNat := fun v334 k0_hw22 => k0_hw22.1
theorem k0_off24_inb : ∀ (v334 : BitVec 32) (k0_hw22 : k0_chk22 v334), ∀ a, (k0_off24 v334) a + S16x8.size a ≤ S16x1000000.size a := fun v334 k0_hw22 => k0_hw22.2.1
theorem k0_off56_inb : ∀ (v334 : BitVec 32) (k0_hw22 : k0_chk22 v334), ∀ a, (k0_off56 v334) a + S16x8.size a ≤ S16x1000000.size a := fun v334 k0_hw22 => k0_hw22.2.2

def k0_off57 (v349 : BitVec 32) : Fin 2 → Nat :=
  let c0_i32_484 : BitVec 32 := 0#32
  let c_m8_i32_230 : BitVec 32 := 4294967288#32
  let v350 : BitVec 32 := Scalar.andi v349 c_m8_i32_230
  let v351 : BitVec 32 := v350
  ![0, v351.toNat]

def k0_chk23 (v349 : BitVec 32) : Prop :=
  (8 ∣ (k0_mult23 v349).toNat) ∧
  (∀ a, (k0_off25 v349) a + S16x8.size a ≤ S16x1000000.size a) ∧
  (∀ a, (k0_off57 v349) a + S16x8.size a ≤ S16x1000000.size a)
theorem k0_mult23_dvd : ∀ (v349 : BitVec 32) (k0_hw23 : k0_chk23 v349), 8 ∣ (k0_mult23 v349).toNat := fun v349 k0_hw23 => k0_hw23.1
theorem k0_off25_inb : ∀ (v349 : BitVec 32) (k0_hw23 : k0_chk23 v349), ∀ a, (k0_off25 v349) a + S16x8.size a ≤ S16x1000000.size a := fun v349 k0_hw23 => k0_hw23.2.1
theorem k0_off57_inb : ∀ (v349 : BitVec 32) (k0_hw23 : k0_chk23 v349), ∀ a, (k0_off57 v349) a + S16x8.size a ≤ S16x1000000.size a := fun v349 k0_hw23 => k0_hw23.2.2

def k0_off58 (v364 : BitVec 32) : Fin 2 → Nat :=
  let c0_i32_491 : BitVec 32 := 0#32
  let c_m8_i32_240 : BitVec 32 := 4294967288#32
  let v365 : BitVec 32 := Scalar.andi v364 c_m8_i32_240
  let v366 : BitVec 32 := v365
  ![0, v366.toNat]

def k0_chk24 (v364 : BitVec 32) : Prop :=
  (8 ∣ (k0_mult24 v364).toNat) ∧
  (∀ a, (k0_off26 v364) a + S16x8.size a ≤ S16x1000000.size a) ∧
  (∀ a, (k0_off58 v364) a + S16x8.size a ≤ S16x1000000.size a)
theorem k0_mult24_dvd : ∀ (v364 : BitVec 32) (k0_hw24 : k0_chk24 v364), 8 ∣ (k0_mult24 v364).toNat := fun v364 k0_hw24 => k0_hw24.1
theorem k0_off26_inb : ∀ (v364 : BitVec 32) (k0_hw24 : k0_chk24 v364), ∀ a, (k0_off26 v364) a + S16x8.size a ≤ S16x1000000.size a := fun v364 k0_hw24 => k0_hw24.2.1
theorem k0_off58_inb : ∀ (v364 : BitVec 32) (k0_hw24 : k0_chk24 v364), ∀ a, (k0_off58 v364) a + S16x8.size a ≤ S16x1000000.size a := fun v364 k0_hw24 => k0_hw24.2.2

def k0_off59 (v379 : BitVec 32) : Fin 2 → Nat :=
  let c0_i32_498 : BitVec 32 := 0#32
  let c_m8_i32_250 : BitVec 32 := 4294967288#32
  let v380 : BitVec 32 := Scalar.andi v379 c_m8_i32_250
  let v381 : BitVec 32 := v380
  ![0, v381.toNat]

def k0_chk25 (v379 : BitVec 32) : Prop :=
  (8 ∣ (k0_mult25 v379).toNat) ∧
  (∀ a, (k0_off27 v379) a + S16x8.size a ≤ S16x1000000.size a) ∧
  (∀ a, (k0_off59 v379) a + S16x8.size a ≤ S16x1000000.size a)
theorem k0_mult25_dvd : ∀ (v379 : BitVec 32) (k0_hw25 : k0_chk25 v379), 8 ∣ (k0_mult25 v379).toNat := fun v379 k0_hw25 => k0_hw25.1
theorem k0_off27_inb : ∀ (v379 : BitVec 32) (k0_hw25 : k0_chk25 v379), ∀ a, (k0_off27 v379) a + S16x8.size a ≤ S16x1000000.size a := fun v379 k0_hw25 => k0_hw25.2.1
theorem k0_off59_inb : ∀ (v379 : BitVec 32) (k0_hw25 : k0_chk25 v379), ∀ a, (k0_off59 v379) a + S16x8.size a ≤ S16x1000000.size a := fun v379 k0_hw25 => k0_hw25.2.2

def k0_off60 (v394 : BitVec 32) : Fin 2 → Nat :=
  let c0_i32_505 : BitVec 32 := 0#32
  let c_m8_i32_260 : BitVec 32 := 4294967288#32
  let v395 : BitVec 32 := Scalar.andi v394 c_m8_i32_260
  let v396 : BitVec 32 := v395
  ![0, v396.toNat]

def k0_chk26 (v394 : BitVec 32) : Prop :=
  (8 ∣ (k0_mult26 v394).toNat) ∧
  (∀ a, (k0_off28 v394) a + S16x8.size a ≤ S16x1000000.size a) ∧
  (∀ a, (k0_off60 v394) a + S16x8.size a ≤ S16x1000000.size a)
theorem k0_mult26_dvd : ∀ (v394 : BitVec 32) (k0_hw26 : k0_chk26 v394), 8 ∣ (k0_mult26 v394).toNat := fun v394 k0_hw26 => k0_hw26.1
theorem k0_off28_inb : ∀ (v394 : BitVec 32) (k0_hw26 : k0_chk26 v394), ∀ a, (k0_off28 v394) a + S16x8.size a ≤ S16x1000000.size a := fun v394 k0_hw26 => k0_hw26.2.1
theorem k0_off60_inb : ∀ (v394 : BitVec 32) (k0_hw26 : k0_chk26 v394), ∀ a, (k0_off60 v394) a + S16x8.size a ≤ S16x1000000.size a := fun v394 k0_hw26 => k0_hw26.2.2

def k0_off61 (v409 : BitVec 32) : Fin 2 → Nat :=
  let c0_i32_512 : BitVec 32 := 0#32
  let c_m8_i32_270 : BitVec 32 := 4294967288#32
  let v410 : BitVec 32 := Scalar.andi v409 c_m8_i32_270
  let v411 : BitVec 32 := v410
  ![0, v411.toNat]

def k0_chk27 (v409 : BitVec 32) : Prop :=
  (8 ∣ (k0_mult27 v409).toNat) ∧
  (∀ a, (k0_off29 v409) a + S16x8.size a ≤ S16x1000000.size a) ∧
  (∀ a, (k0_off61 v409) a + S16x8.size a ≤ S16x1000000.size a)
theorem k0_mult27_dvd : ∀ (v409 : BitVec 32) (k0_hw27 : k0_chk27 v409), 8 ∣ (k0_mult27 v409).toNat := fun v409 k0_hw27 => k0_hw27.1
theorem k0_off29_inb : ∀ (v409 : BitVec 32) (k0_hw27 : k0_chk27 v409), ∀ a, (k0_off29 v409) a + S16x8.size a ≤ S16x1000000.size a := fun v409 k0_hw27 => k0_hw27.2.1
theorem k0_off61_inb : ∀ (v409 : BitVec 32) (k0_hw27 : k0_chk27 v409), ∀ a, (k0_off61 v409) a + S16x8.size a ≤ S16x1000000.size a := fun v409 k0_hw27 => k0_hw27.2.2

def k0_off62 (v424 : BitVec 32) : Fin 2 → Nat :=
  let c0_i32_519 : BitVec 32 := 0#32
  let c_m8_i32_280 : BitVec 32 := 4294967288#32
  let v425 : BitVec 32 := Scalar.andi v424 c_m8_i32_280
  let v426 : BitVec 32 := v425
  ![0, v426.toNat]

def k0_chk28 (v424 : BitVec 32) : Prop :=
  (8 ∣ (k0_mult28 v424).toNat) ∧
  (∀ a, (k0_off30 v424) a + S16x8.size a ≤ S16x1000000.size a) ∧
  (∀ a, (k0_off62 v424) a + S16x8.size a ≤ S16x1000000.size a)
theorem k0_mult28_dvd : ∀ (v424 : BitVec 32) (k0_hw28 : k0_chk28 v424), 8 ∣ (k0_mult28 v424).toNat := fun v424 k0_hw28 => k0_hw28.1
theorem k0_off30_inb : ∀ (v424 : BitVec 32) (k0_hw28 : k0_chk28 v424), ∀ a, (k0_off30 v424) a + S16x8.size a ≤ S16x1000000.size a := fun v424 k0_hw28 => k0_hw28.2.1
theorem k0_off62_inb : ∀ (v424 : BitVec 32) (k0_hw28 : k0_chk28 v424), ∀ a, (k0_off62 v424) a + S16x8.size a ≤ S16x1000000.size a := fun v424 k0_hw28 => k0_hw28.2.2

def k0_off63 (v439 : BitVec 32) : Fin 2 → Nat :=
  let c0_i32_526 : BitVec 32 := 0#32
  let c_m8_i32_290 : BitVec 32 := 4294967288#32
  let v440 : BitVec 32 := Scalar.andi v439 c_m8_i32_290
  let v441 : BitVec 32 := v440
  ![0, v441.toNat]

def k0_chk29 (v439 : BitVec 32) : Prop :=
  (8 ∣ (k0_mult29 v439).toNat) ∧
  (∀ a, (k0_off31 v439) a + S16x8.size a ≤ S16x1000000.size a) ∧
  (∀ a, (k0_off63 v439) a + S16x8.size a ≤ S16x1000000.size a)
theorem k0_mult29_dvd : ∀ (v439 : BitVec 32) (k0_hw29 : k0_chk29 v439), 8 ∣ (k0_mult29 v439).toNat := fun v439 k0_hw29 => k0_hw29.1
theorem k0_off31_inb : ∀ (v439 : BitVec 32) (k0_hw29 : k0_chk29 v439), ∀ a, (k0_off31 v439) a + S16x8.size a ≤ S16x1000000.size a := fun v439 k0_hw29 => k0_hw29.2.1
theorem k0_off63_inb : ∀ (v439 : BitVec 32) (k0_hw29 : k0_chk29 v439), ∀ a, (k0_off63 v439) a + S16x8.size a ≤ S16x1000000.size a := fun v439 k0_hw29 => k0_hw29.2.2

def k0_off64 (v454 : BitVec 32) : Fin 2 → Nat :=
  let c0_i32_533 : BitVec 32 := 0#32
  let c_m8_i32_300 : BitVec 32 := 4294967288#32
  let v455 : BitVec 32 := Scalar.andi v454 c_m8_i32_300
  let v456 : BitVec 32 := v455
  ![0, v456.toNat]

def k0_chk30 (v454 : BitVec 32) : Prop :=
  (8 ∣ (k0_mult30 v454).toNat) ∧
  (∀ a, (k0_off32 v454) a + S16x8.size a ≤ S16x1000000.size a) ∧
  (∀ a, (k0_off64 v454) a + S16x8.size a ≤ S16x1000000.size a)
theorem k0_mult30_dvd : ∀ (v454 : BitVec 32) (k0_hw30 : k0_chk30 v454), 8 ∣ (k0_mult30 v454).toNat := fun v454 k0_hw30 => k0_hw30.1
theorem k0_off32_inb : ∀ (v454 : BitVec 32) (k0_hw30 : k0_chk30 v454), ∀ a, (k0_off32 v454) a + S16x8.size a ≤ S16x1000000.size a := fun v454 k0_hw30 => k0_hw30.2.1
theorem k0_off64_inb : ∀ (v454 : BitVec 32) (k0_hw30 : k0_chk30 v454), ∀ a, (k0_off64 v454) a + S16x8.size a ≤ S16x1000000.size a := fun v454 k0_hw30 => k0_hw30.2.2

def k0_off65 (v469 : BitVec 32) : Fin 2 → Nat :=
  let c0_i32_540 : BitVec 32 := 0#32
  let c_m8_i32_310 : BitVec 32 := 4294967288#32
  let v470 : BitVec 32 := Scalar.andi v469 c_m8_i32_310
  let v471 : BitVec 32 := v470
  ![0, v471.toNat]

def k0_chk31 (v469 : BitVec 32) : Prop :=
  (8 ∣ (k0_mult31 v469).toNat) ∧
  (∀ a, (k0_off33 v469) a + S16x8.size a ≤ S16x1000000.size a) ∧
  (∀ a, (k0_off65 v469) a + S16x8.size a ≤ S16x1000000.size a)
theorem k0_mult31_dvd : ∀ (v469 : BitVec 32) (k0_hw31 : k0_chk31 v469), 8 ∣ (k0_mult31 v469).toNat := fun v469 k0_hw31 => k0_hw31.1
theorem k0_off33_inb : ∀ (v469 : BitVec 32) (k0_hw31 : k0_chk31 v469), ∀ a, (k0_off33 v469) a + S16x8.size a ≤ S16x1000000.size a := fun v469 k0_hw31 => k0_hw31.2.1
theorem k0_off65_inb : ∀ (v469 : BitVec 32) (k0_hw31 : k0_chk31 v469), ∀ a, (k0_off65 v469) a + S16x8.size a ≤ S16x1000000.size a := fun v469 k0_hw31 => k0_hw31.2.2

def k0_chk33 (v3 : IVec S16 32) (v686 : IVec S16 32) (v687 : IVec S16 32) : Prop :=
  (∀ a x, ((![v686, v3, v687] : Fin 3 → IVec S16 32) a x).toNat < S32x16x16.size a)
theorem k0_idx1_inb : ∀ (v3 : IVec S16 32) (v686 : IVec S16 32) (v687 : IVec S16 32) (k0_hw33 : k0_chk33 v3 v686 v687), ∀ a x, ((![v686, v3, v687] : Fin 3 → IVec S16 32) a x).toNat < S32x16x16.size a := fun v3 v686 v687 k0_hw33 => k0_hw33

def k0_chk34 (v3 : IVec S16 32) (v691 : IVec S16 32) : Prop :=
  (∀ a x, ((![v3, v691] : Fin 2 → IVec S16 32) a x).toNat < S16x512.size a)
theorem k0_idx2_inb : ∀ (v3 : IVec S16 32) (v691 : IVec S16 32) (k0_hw34 : k0_chk34 v3 v691), ∀ a x, ((![v3, v691] : Fin 2 → IVec S16 32) a x).toNat < S16x512.size a := fun v3 v691 k0_hw34 => k0_hw34

def k0_chk35 (v3 : IVec S16 32) (v693 : IVec S16 32) (v694 : IVec S16 32) : Prop :=
  (∀ a x, ((![v693, v3, v694] : Fin 3 → IVec S16 32) a x).toNat < S32x16x16.size a)
theorem k0_idx3_inb : ∀ (v3 : IVec S16 32) (v693 : IVec S16 32) (v694 : IVec S16 32) (k0_hw35 : k0_chk35 v3 v693 v694), ∀ a x, ((![v693, v3, v694] : Fin 3 → IVec S16 32) a x).toNat < S32x16x16.size a := fun v3 v693 v694 k0_hw35 => k0_hw35

def k0_chk36 (v3 : IVec S16 32) (v698 : IVec S16 32) : Prop :=
  (∀ a x, ((![v3, v698] : Fin 2 → IVec S16 32) a x).toNat < S16x512.size a)
theorem k0_idx4_inb : ∀ (v3 : IVec S16 32) (v698 : IVec S16 32) (k0_hw36 : k0_chk36 v3 v698), ∀ a x, ((![v3, v698] : Fin 2 → IVec S16 32) a x).toNat < S16x512.size a := fun v3 v698 k0_hw36 => k0_hw36

def k0_chk37 (v3 : IVec S16 32) (v700 : IVec S16 32) (v701 : IVec S16 32) : Prop :=
  (∀ a x, ((![v700, v3, v701] : Fin 3 → IVec S16 32) a x).toNat < S32x16x16.size a)
theorem k0_idx5_inb : ∀ (v3 : IVec S16 32) (v700 : IVec S16 32) (v701 : IVec S16 32) (k0_hw37 : k0_chk37 v3 v700 v701), ∀ a x, ((![v700, v3, v701] : Fin 3 → IVec S16 32) a x).toNat < S32x16x16.size a := fun v3 v700 v701 k0_hw37 => k0_hw37

def k0_chk38 (v3 : IVec S16 32) (v705 : IVec S16 32) : Prop :=
  (∀ a x, ((![v3, v705] : Fin 2 → IVec S16 32) a x).toNat < S16x512.size a)
theorem k0_idx6_inb : ∀ (v3 : IVec S16 32) (v705 : IVec S16 32) (k0_hw38 : k0_chk38 v3 v705), ∀ a x, ((![v3, v705] : Fin 2 → IVec S16 32) a x).toNat < S16x512.size a := fun v3 v705 k0_hw38 => k0_hw38

def k0_chk39 (v3 : IVec S16 32) (v707 : IVec S16 32) (v708 : IVec S16 32) : Prop :=
  (∀ a x, ((![v707, v3, v708] : Fin 3 → IVec S16 32) a x).toNat < S32x16x16.size a)
theorem k0_idx7_inb : ∀ (v3 : IVec S16 32) (v707 : IVec S16 32) (v708 : IVec S16 32) (k0_hw39 : k0_chk39 v3 v707 v708), ∀ a x, ((![v707, v3, v708] : Fin 3 → IVec S16 32) a x).toNat < S32x16x16.size a := fun v3 v707 v708 k0_hw39 => k0_hw39

def k0_chk40 (v3 : IVec S16 32) (v712 : IVec S16 32) : Prop :=
  (∀ a x, ((![v3, v712] : Fin 2 → IVec S16 32) a x).toNat < S16x512.size a)
theorem k0_idx8_inb : ∀ (v3 : IVec S16 32) (v712 : IVec S16 32) (k0_hw40 : k0_chk40 v3 v712), ∀ a x, ((![v3, v712] : Fin 2 → IVec S16 32) a x).toNat < S16x512.size a := fun v3 v712 k0_hw40 => k0_hw40

def k0_chk41 (v3 : IVec S16 32) (v714 : IVec S16 32) (v715 : IVec S16 32) : Prop :=
  (∀ a x, ((![v714, v3, v715] : Fin 3 → IVec S16 32) a x).toNat < S32x16x16.size a)
theorem k0_idx9_inb : ∀ (v3 : IVec S16 32) (v714 : IVec S16 32) (v715 : IVec S16 32) (k0_hw41 : k0_chk41 v3 v714 v715), ∀ a x, ((![v714, v3, v715] : Fin 3 → IVec S16 32) a x).toNat < S32x16x16.size a := fun v3 v714 v715 k0_hw41 => k0_hw41

def k0_chk42 (v3 : IVec S16 32) (v719 : IVec S16 32) : Prop :=
  (∀ a x, ((![v3, v719] : Fin 2 → IVec S16 32) a x).toNat < S16x512.size a)
theorem k0_idx10_inb : ∀ (v3 : IVec S16 32) (v719 : IVec S16 32) (k0_hw42 : k0_chk42 v3 v719), ∀ a x, ((![v3, v719] : Fin 2 → IVec S16 32) a x).toNat < S16x512.size a := fun v3 v719 k0_hw42 => k0_hw42

def k0_chk43 (v3 : IVec S16 32) (v721 : IVec S16 32) (v722 : IVec S16 32) : Prop :=
  (∀ a x, ((![v721, v3, v722] : Fin 3 → IVec S16 32) a x).toNat < S32x16x16.size a)
theorem k0_idx11_inb : ∀ (v3 : IVec S16 32) (v721 : IVec S16 32) (v722 : IVec S16 32) (k0_hw43 : k0_chk43 v3 v721 v722), ∀ a x, ((![v721, v3, v722] : Fin 3 → IVec S16 32) a x).toNat < S32x16x16.size a := fun v3 v721 v722 k0_hw43 => k0_hw43

def k0_chk44 (v3 : IVec S16 32) (v726 : IVec S16 32) : Prop :=
  (∀ a x, ((![v3, v726] : Fin 2 → IVec S16 32) a x).toNat < S16x512.size a)
theorem k0_idx12_inb : ∀ (v3 : IVec S16 32) (v726 : IVec S16 32) (k0_hw44 : k0_chk44 v3 v726), ∀ a x, ((![v3, v726] : Fin 2 → IVec S16 32) a x).toNat < S16x512.size a := fun v3 v726 k0_hw44 => k0_hw44

def k0_chk45 (v3 : IVec S16 32) (v728 : IVec S16 32) (v729 : IVec S16 32) : Prop :=
  (∀ a x, ((![v728, v3, v729] : Fin 3 → IVec S16 32) a x).toNat < S32x16x16.size a)
theorem k0_idx13_inb : ∀ (v3 : IVec S16 32) (v728 : IVec S16 32) (v729 : IVec S16 32) (k0_hw45 : k0_chk45 v3 v728 v729), ∀ a x, ((![v728, v3, v729] : Fin 3 → IVec S16 32) a x).toNat < S32x16x16.size a := fun v3 v728 v729 k0_hw45 => k0_hw45

def k0_chk46 (v3 : IVec S16 32) (v733 : IVec S16 32) : Prop :=
  (∀ a x, ((![v3, v733] : Fin 2 → IVec S16 32) a x).toNat < S16x512.size a)
theorem k0_idx14_inb : ∀ (v3 : IVec S16 32) (v733 : IVec S16 32) (k0_hw46 : k0_chk46 v3 v733), ∀ a x, ((![v3, v733] : Fin 2 → IVec S16 32) a x).toNat < S16x512.size a := fun v3 v733 k0_hw46 => k0_hw46

def k0_chk47 (v3 : IVec S16 32) (v735 : IVec S16 32) (v736 : IVec S16 32) : Prop :=
  (∀ a x, ((![v735, v3, v736] : Fin 3 → IVec S16 32) a x).toNat < S32x16x16.size a)
theorem k0_idx15_inb : ∀ (v3 : IVec S16 32) (v735 : IVec S16 32) (v736 : IVec S16 32) (k0_hw47 : k0_chk47 v3 v735 v736), ∀ a x, ((![v735, v3, v736] : Fin 3 → IVec S16 32) a x).toNat < S32x16x16.size a := fun v3 v735 v736 k0_hw47 => k0_hw47

def k0_chk48 (v3 : IVec S16 32) (v740 : IVec S16 32) : Prop :=
  (∀ a x, ((![v3, v740] : Fin 2 → IVec S16 32) a x).toNat < S16x512.size a)
theorem k0_idx16_inb : ∀ (v3 : IVec S16 32) (v740 : IVec S16 32) (k0_hw48 : k0_chk48 v3 v740), ∀ a x, ((![v3, v740] : Fin 2 → IVec S16 32) a x).toNat < S16x512.size a := fun v3 v740 k0_hw48 => k0_hw48

def k0_chk49 (v3 : IVec S16 32) (v742 : IVec S16 32) (v743 : IVec S16 32) : Prop :=
  (∀ a x, ((![v742, v3, v743] : Fin 3 → IVec S16 32) a x).toNat < S32x16x16.size a)
theorem k0_idx17_inb : ∀ (v3 : IVec S16 32) (v742 : IVec S16 32) (v743 : IVec S16 32) (k0_hw49 : k0_chk49 v3 v742 v743), ∀ a x, ((![v742, v3, v743] : Fin 3 → IVec S16 32) a x).toNat < S32x16x16.size a := fun v3 v742 v743 k0_hw49 => k0_hw49

def k0_chk50 (v3 : IVec S16 32) (v747 : IVec S16 32) : Prop :=
  (∀ a x, ((![v3, v747] : Fin 2 → IVec S16 32) a x).toNat < S16x512.size a)
theorem k0_idx18_inb : ∀ (v3 : IVec S16 32) (v747 : IVec S16 32) (k0_hw50 : k0_chk50 v3 v747), ∀ a x, ((![v3, v747] : Fin 2 → IVec S16 32) a x).toNat < S16x512.size a := fun v3 v747 k0_hw50 => k0_hw50

def k0_chk51 (v3 : IVec S16 32) (v749 : IVec S16 32) (v750 : IVec S16 32) : Prop :=
  (∀ a x, ((![v749, v3, v750] : Fin 3 → IVec S16 32) a x).toNat < S32x16x16.size a)
theorem k0_idx19_inb : ∀ (v3 : IVec S16 32) (v749 : IVec S16 32) (v750 : IVec S16 32) (k0_hw51 : k0_chk51 v3 v749 v750), ∀ a x, ((![v749, v3, v750] : Fin 3 → IVec S16 32) a x).toNat < S32x16x16.size a := fun v3 v749 v750 k0_hw51 => k0_hw51

def k0_chk52 (v3 : IVec S16 32) (v754 : IVec S16 32) : Prop :=
  (∀ a x, ((![v3, v754] : Fin 2 → IVec S16 32) a x).toNat < S16x512.size a)
theorem k0_idx20_inb : ∀ (v3 : IVec S16 32) (v754 : IVec S16 32) (k0_hw52 : k0_chk52 v3 v754), ∀ a x, ((![v3, v754] : Fin 2 → IVec S16 32) a x).toNat < S16x512.size a := fun v3 v754 k0_hw52 => k0_hw52

def k0_chk53 (v3 : IVec S16 32) (v756 : IVec S16 32) (v757 : IVec S16 32) : Prop :=
  (∀ a x, ((![v756, v3, v757] : Fin 3 → IVec S16 32) a x).toNat < S32x16x16.size a)
theorem k0_idx21_inb : ∀ (v3 : IVec S16 32) (v756 : IVec S16 32) (v757 : IVec S16 32) (k0_hw53 : k0_chk53 v3 v756 v757), ∀ a x, ((![v756, v3, v757] : Fin 3 → IVec S16 32) a x).toNat < S32x16x16.size a := fun v3 v756 v757 k0_hw53 => k0_hw53

def k0_chk54 (v3 : IVec S16 32) (v761 : IVec S16 32) : Prop :=
  (∀ a x, ((![v3, v761] : Fin 2 → IVec S16 32) a x).toNat < S16x512.size a)
theorem k0_idx22_inb : ∀ (v3 : IVec S16 32) (v761 : IVec S16 32) (k0_hw54 : k0_chk54 v3 v761), ∀ a x, ((![v3, v761] : Fin 2 → IVec S16 32) a x).toNat < S16x512.size a := fun v3 v761 k0_hw54 => k0_hw54

def k0_chk55 (v3 : IVec S16 32) (v763 : IVec S16 32) (v764 : IVec S16 32) : Prop :=
  (∀ a x, ((![v763, v3, v764] : Fin 3 → IVec S16 32) a x).toNat < S32x16x16.size a)
theorem k0_idx23_inb : ∀ (v3 : IVec S16 32) (v763 : IVec S16 32) (v764 : IVec S16 32) (k0_hw55 : k0_chk55 v3 v763 v764), ∀ a x, ((![v763, v3, v764] : Fin 3 → IVec S16 32) a x).toNat < S32x16x16.size a := fun v3 v763 v764 k0_hw55 => k0_hw55

def k0_chk56 (v3 : IVec S16 32) (v768 : IVec S16 32) : Prop :=
  (∀ a x, ((![v3, v768] : Fin 2 → IVec S16 32) a x).toNat < S16x512.size a)
theorem k0_idx24_inb : ∀ (v3 : IVec S16 32) (v768 : IVec S16 32) (k0_hw56 : k0_chk56 v3 v768), ∀ a x, ((![v3, v768] : Fin 2 → IVec S16 32) a x).toNat < S16x512.size a := fun v3 v768 k0_hw56 => k0_hw56

def k0_chk57 (v3 : IVec S16 32) (v770 : IVec S16 32) (v771 : IVec S16 32) : Prop :=
  (∀ a x, ((![v770, v3, v771] : Fin 3 → IVec S16 32) a x).toNat < S32x16x16.size a)
theorem k0_idx25_inb : ∀ (v3 : IVec S16 32) (v770 : IVec S16 32) (v771 : IVec S16 32) (k0_hw57 : k0_chk57 v3 v770 v771), ∀ a x, ((![v770, v3, v771] : Fin 3 → IVec S16 32) a x).toNat < S32x16x16.size a := fun v3 v770 v771 k0_hw57 => k0_hw57

def k0_chk58 (v3 : IVec S16 32) (v775 : IVec S16 32) : Prop :=
  (∀ a x, ((![v3, v775] : Fin 2 → IVec S16 32) a x).toNat < S16x512.size a)
theorem k0_idx26_inb : ∀ (v3 : IVec S16 32) (v775 : IVec S16 32) (k0_hw58 : k0_chk58 v3 v775), ∀ a x, ((![v3, v775] : Fin 2 → IVec S16 32) a x).toNat < S16x512.size a := fun v3 v775 k0_hw58 => k0_hw58

def k0_chk59 (v3 : IVec S16 32) (v777 : IVec S16 32) (v778 : IVec S16 32) : Prop :=
  (∀ a x, ((![v777, v3, v778] : Fin 3 → IVec S16 32) a x).toNat < S32x16x16.size a)
theorem k0_idx27_inb : ∀ (v3 : IVec S16 32) (v777 : IVec S16 32) (v778 : IVec S16 32) (k0_hw59 : k0_chk59 v3 v777 v778), ∀ a x, ((![v777, v3, v778] : Fin 3 → IVec S16 32) a x).toNat < S32x16x16.size a := fun v3 v777 v778 k0_hw59 => k0_hw59

def k0_chk60 (v3 : IVec S16 32) (v782 : IVec S16 32) : Prop :=
  (∀ a x, ((![v3, v782] : Fin 2 → IVec S16 32) a x).toNat < S16x512.size a)
theorem k0_idx28_inb : ∀ (v3 : IVec S16 32) (v782 : IVec S16 32) (k0_hw60 : k0_chk60 v3 v782), ∀ a x, ((![v3, v782] : Fin 2 → IVec S16 32) a x).toNat < S16x512.size a := fun v3 v782 k0_hw60 => k0_hw60

def k0_chk61 (v3 : IVec S16 32) (v784 : IVec S16 32) (v785 : IVec S16 32) : Prop :=
  (∀ a x, ((![v784, v3, v785] : Fin 3 → IVec S16 32) a x).toNat < S32x16x16.size a)
theorem k0_idx29_inb : ∀ (v3 : IVec S16 32) (v784 : IVec S16 32) (v785 : IVec S16 32) (k0_hw61 : k0_chk61 v3 v784 v785), ∀ a x, ((![v784, v3, v785] : Fin 3 → IVec S16 32) a x).toNat < S32x16x16.size a := fun v3 v784 v785 k0_hw61 => k0_hw61

def k0_chk62 (v3 : IVec S16 32) (v789 : IVec S16 32) : Prop :=
  (∀ a x, ((![v3, v789] : Fin 2 → IVec S16 32) a x).toNat < S16x512.size a)
theorem k0_idx30_inb : ∀ (v3 : IVec S16 32) (v789 : IVec S16 32) (k0_hw62 : k0_chk62 v3 v789), ∀ a x, ((![v3, v789] : Fin 2 → IVec S16 32) a x).toNat < S16x512.size a := fun v3 v789 k0_hw62 => k0_hw62

def k0_chk63 (v3 : IVec S16 32) (v791 : IVec S16 32) (v792 : IVec S16 32) : Prop :=
  (∀ a x, ((![v791, v3, v792] : Fin 3 → IVec S16 32) a x).toNat < S32x16x16.size a)
theorem k0_idx31_inb : ∀ (v3 : IVec S16 32) (v791 : IVec S16 32) (v792 : IVec S16 32) (k0_hw63 : k0_chk63 v3 v791 v792), ∀ a x, ((![v791, v3, v792] : Fin 3 → IVec S16 32) a x).toNat < S32x16x16.size a := fun v3 v791 v792 k0_hw63 => k0_hw63

def k0_chk64 (v3 : IVec S16 32) (v796 : IVec S16 32) : Prop :=
  (∀ a x, ((![v3, v796] : Fin 2 → IVec S16 32) a x).toNat < S16x512.size a)
theorem k0_idx32_inb : ∀ (v3 : IVec S16 32) (v796 : IVec S16 32) (k0_hw64 : k0_chk64 v3 v796), ∀ a x, ((![v3, v796] : Fin 2 → IVec S16 32) a x).toNat < S16x512.size a := fun v3 v796 k0_hw64 => k0_hw64

def k0_chk65 (v3 : IVec S16 32) (v798 : IVec S16 32) (v799 : IVec S16 32) : Prop :=
  (∀ a x, ((![v798, v3, v799] : Fin 3 → IVec S16 32) a x).toNat < S32x16x16.size a)
theorem k0_idx33_inb : ∀ (v3 : IVec S16 32) (v798 : IVec S16 32) (v799 : IVec S16 32) (k0_hw65 : k0_chk65 v3 v798 v799), ∀ a x, ((![v798, v3, v799] : Fin 3 → IVec S16 32) a x).toNat < S32x16x16.size a := fun v3 v798 v799 k0_hw65 => k0_hw65

def k0_chk66 (v3 : IVec S16 32) (v803 : IVec S16 32) : Prop :=
  (∀ a x, ((![v3, v803] : Fin 2 → IVec S16 32) a x).toNat < S16x512.size a)
theorem k0_idx34_inb : ∀ (v3 : IVec S16 32) (v803 : IVec S16 32) (k0_hw66 : k0_chk66 v3 v803), ∀ a x, ((![v3, v803] : Fin 2 → IVec S16 32) a x).toNat < S16x512.size a := fun v3 v803 k0_hw66 => k0_hw66

def k0_chk67 (v3 : IVec S16 32) (v805 : IVec S16 32) (v806 : IVec S16 32) : Prop :=
  (∀ a x, ((![v805, v3, v806] : Fin 3 → IVec S16 32) a x).toNat < S32x16x16.size a)
theorem k0_idx35_inb : ∀ (v3 : IVec S16 32) (v805 : IVec S16 32) (v806 : IVec S16 32) (k0_hw67 : k0_chk67 v3 v805 v806), ∀ a x, ((![v805, v3, v806] : Fin 3 → IVec S16 32) a x).toNat < S32x16x16.size a := fun v3 v805 v806 k0_hw67 => k0_hw67

def k0_chk68 (v3 : IVec S16 32) (v810 : IVec S16 32) : Prop :=
  (∀ a x, ((![v3, v810] : Fin 2 → IVec S16 32) a x).toNat < S16x512.size a)
theorem k0_idx36_inb : ∀ (v3 : IVec S16 32) (v810 : IVec S16 32) (k0_hw68 : k0_chk68 v3 v810), ∀ a x, ((![v3, v810] : Fin 2 → IVec S16 32) a x).toNat < S16x512.size a := fun v3 v810 k0_hw68 => k0_hw68

def k0_chk69 (v3 : IVec S16 32) (v812 : IVec S16 32) (v813 : IVec S16 32) : Prop :=
  (∀ a x, ((![v812, v3, v813] : Fin 3 → IVec S16 32) a x).toNat < S32x16x16.size a)
theorem k0_idx37_inb : ∀ (v3 : IVec S16 32) (v812 : IVec S16 32) (v813 : IVec S16 32) (k0_hw69 : k0_chk69 v3 v812 v813), ∀ a x, ((![v812, v3, v813] : Fin 3 → IVec S16 32) a x).toNat < S32x16x16.size a := fun v3 v812 v813 k0_hw69 => k0_hw69

def k0_chk70 (v3 : IVec S16 32) (v817 : IVec S16 32) : Prop :=
  (∀ a x, ((![v3, v817] : Fin 2 → IVec S16 32) a x).toNat < S16x512.size a)
theorem k0_idx38_inb : ∀ (v3 : IVec S16 32) (v817 : IVec S16 32) (k0_hw70 : k0_chk70 v3 v817), ∀ a x, ((![v3, v817] : Fin 2 → IVec S16 32) a x).toNat < S16x512.size a := fun v3 v817 k0_hw70 => k0_hw70

def k0_chk71 (v3 : IVec S16 32) (v819 : IVec S16 32) (v820 : IVec S16 32) : Prop :=
  (∀ a x, ((![v819, v3, v820] : Fin 3 → IVec S16 32) a x).toNat < S32x16x16.size a)
theorem k0_idx39_inb : ∀ (v3 : IVec S16 32) (v819 : IVec S16 32) (v820 : IVec S16 32) (k0_hw71 : k0_chk71 v3 v819 v820), ∀ a x, ((![v819, v3, v820] : Fin 3 → IVec S16 32) a x).toNat < S32x16x16.size a := fun v3 v819 v820 k0_hw71 => k0_hw71

def k0_chk72 (v3 : IVec S16 32) (v824 : IVec S16 32) : Prop :=
  (∀ a x, ((![v3, v824] : Fin 2 → IVec S16 32) a x).toNat < S16x512.size a)
theorem k0_idx40_inb : ∀ (v3 : IVec S16 32) (v824 : IVec S16 32) (k0_hw72 : k0_chk72 v3 v824), ∀ a x, ((![v3, v824] : Fin 2 → IVec S16 32) a x).toNat < S16x512.size a := fun v3 v824 k0_hw72 => k0_hw72

def k0_chk73 (v3 : IVec S16 32) (v826 : IVec S16 32) (v827 : IVec S16 32) : Prop :=
  (∀ a x, ((![v826, v3, v827] : Fin 3 → IVec S16 32) a x).toNat < S32x16x16.size a)
theorem k0_idx41_inb : ∀ (v3 : IVec S16 32) (v826 : IVec S16 32) (v827 : IVec S16 32) (k0_hw73 : k0_chk73 v3 v826 v827), ∀ a x, ((![v826, v3, v827] : Fin 3 → IVec S16 32) a x).toNat < S32x16x16.size a := fun v3 v826 v827 k0_hw73 => k0_hw73

def k0_chk74 (v3 : IVec S16 32) (v831 : IVec S16 32) : Prop :=
  (∀ a x, ((![v3, v831] : Fin 2 → IVec S16 32) a x).toNat < S16x512.size a)
theorem k0_idx42_inb : ∀ (v3 : IVec S16 32) (v831 : IVec S16 32) (k0_hw74 : k0_chk74 v3 v831), ∀ a x, ((![v3, v831] : Fin 2 → IVec S16 32) a x).toNat < S16x512.size a := fun v3 v831 k0_hw74 => k0_hw74

def k0_chk75 (v3 : IVec S16 32) (v833 : IVec S16 32) (v834 : IVec S16 32) : Prop :=
  (∀ a x, ((![v833, v3, v834] : Fin 3 → IVec S16 32) a x).toNat < S32x16x16.size a)
theorem k0_idx43_inb : ∀ (v3 : IVec S16 32) (v833 : IVec S16 32) (v834 : IVec S16 32) (k0_hw75 : k0_chk75 v3 v833 v834), ∀ a x, ((![v833, v3, v834] : Fin 3 → IVec S16 32) a x).toNat < S32x16x16.size a := fun v3 v833 v834 k0_hw75 => k0_hw75

def k0_chk76 (v3 : IVec S16 32) (v838 : IVec S16 32) : Prop :=
  (∀ a x, ((![v3, v838] : Fin 2 → IVec S16 32) a x).toNat < S16x512.size a)
theorem k0_idx44_inb : ∀ (v3 : IVec S16 32) (v838 : IVec S16 32) (k0_hw76 : k0_chk76 v3 v838), ∀ a x, ((![v3, v838] : Fin 2 → IVec S16 32) a x).toNat < S16x512.size a := fun v3 v838 k0_hw76 => k0_hw76

def k0_chk77 (v3 : IVec S16 32) (v840 : IVec S16 32) (v841 : IVec S16 32) : Prop :=
  (∀ a x, ((![v840, v3, v841] : Fin 3 → IVec S16 32) a x).toNat < S32x16x16.size a)
theorem k0_idx45_inb : ∀ (v3 : IVec S16 32) (v840 : IVec S16 32) (v841 : IVec S16 32) (k0_hw77 : k0_chk77 v3 v840 v841), ∀ a x, ((![v840, v3, v841] : Fin 3 → IVec S16 32) a x).toNat < S32x16x16.size a := fun v3 v840 v841 k0_hw77 => k0_hw77

def k0_chk78 (v3 : IVec S16 32) (v845 : IVec S16 32) : Prop :=
  (∀ a x, ((![v3, v845] : Fin 2 → IVec S16 32) a x).toNat < S16x512.size a)
theorem k0_idx46_inb : ∀ (v3 : IVec S16 32) (v845 : IVec S16 32) (k0_hw78 : k0_chk78 v3 v845), ∀ a x, ((![v3, v845] : Fin 2 → IVec S16 32) a x).toNat < S16x512.size a := fun v3 v845 k0_hw78 => k0_hw78

def k0_chk79 (v3 : IVec S16 32) (v847 : IVec S16 32) (v848 : IVec S16 32) : Prop :=
  (∀ a x, ((![v847, v3, v848] : Fin 3 → IVec S16 32) a x).toNat < S32x16x16.size a)
theorem k0_idx47_inb : ∀ (v3 : IVec S16 32) (v847 : IVec S16 32) (v848 : IVec S16 32) (k0_hw79 : k0_chk79 v3 v847 v848), ∀ a x, ((![v847, v3, v848] : Fin 3 → IVec S16 32) a x).toNat < S32x16x16.size a := fun v3 v847 v848 k0_hw79 => k0_hw79

def k0_chk80 (v3 : IVec S16 32) (v852 : IVec S16 32) : Prop :=
  (∀ a x, ((![v3, v852] : Fin 2 → IVec S16 32) a x).toNat < S16x512.size a)
theorem k0_idx48_inb : ∀ (v3 : IVec S16 32) (v852 : IVec S16 32) (k0_hw80 : k0_chk80 v3 v852), ∀ a x, ((![v3, v852] : Fin 2 → IVec S16 32) a x).toNat < S16x512.size a := fun v3 v852 k0_hw80 => k0_hw80

def k0_chk81 (v3 : IVec S16 32) (v854 : IVec S16 32) (v855 : IVec S16 32) : Prop :=
  (∀ a x, ((![v854, v3, v855] : Fin 3 → IVec S16 32) a x).toNat < S32x16x16.size a)
theorem k0_idx49_inb : ∀ (v3 : IVec S16 32) (v854 : IVec S16 32) (v855 : IVec S16 32) (k0_hw81 : k0_chk81 v3 v854 v855), ∀ a x, ((![v854, v3, v855] : Fin 3 → IVec S16 32) a x).toNat < S32x16x16.size a := fun v3 v854 v855 k0_hw81 => k0_hw81

def k0_chk82 (v3 : IVec S16 32) (v859 : IVec S16 32) : Prop :=
  (∀ a x, ((![v3, v859] : Fin 2 → IVec S16 32) a x).toNat < S16x512.size a)
theorem k0_idx50_inb : ∀ (v3 : IVec S16 32) (v859 : IVec S16 32) (k0_hw82 : k0_chk82 v3 v859), ∀ a x, ((![v3, v859] : Fin 2 → IVec S16 32) a x).toNat < S16x512.size a := fun v3 v859 k0_hw82 => k0_hw82

def k0_chk83 (v3 : IVec S16 32) (v861 : IVec S16 32) (v862 : IVec S16 32) : Prop :=
  (∀ a x, ((![v861, v3, v862] : Fin 3 → IVec S16 32) a x).toNat < S32x16x16.size a)
theorem k0_idx51_inb : ∀ (v3 : IVec S16 32) (v861 : IVec S16 32) (v862 : IVec S16 32) (k0_hw83 : k0_chk83 v3 v861 v862), ∀ a x, ((![v861, v3, v862] : Fin 3 → IVec S16 32) a x).toNat < S32x16x16.size a := fun v3 v861 v862 k0_hw83 => k0_hw83

def k0_chk84 (v3 : IVec S16 32) (v866 : IVec S16 32) : Prop :=
  (∀ a x, ((![v3, v866] : Fin 2 → IVec S16 32) a x).toNat < S16x512.size a)
theorem k0_idx52_inb : ∀ (v3 : IVec S16 32) (v866 : IVec S16 32) (k0_hw84 : k0_chk84 v3 v866), ∀ a x, ((![v3, v866] : Fin 2 → IVec S16 32) a x).toNat < S16x512.size a := fun v3 v866 k0_hw84 => k0_hw84

def k0_chk85 (v3 : IVec S16 32) (v868 : IVec S16 32) (v869 : IVec S16 32) : Prop :=
  (∀ a x, ((![v868, v3, v869] : Fin 3 → IVec S16 32) a x).toNat < S32x16x16.size a)
theorem k0_idx53_inb : ∀ (v3 : IVec S16 32) (v868 : IVec S16 32) (v869 : IVec S16 32) (k0_hw85 : k0_chk85 v3 v868 v869), ∀ a x, ((![v868, v3, v869] : Fin 3 → IVec S16 32) a x).toNat < S32x16x16.size a := fun v3 v868 v869 k0_hw85 => k0_hw85

def k0_chk86 (v3 : IVec S16 32) (v873 : IVec S16 32) : Prop :=
  (∀ a x, ((![v3, v873] : Fin 2 → IVec S16 32) a x).toNat < S16x512.size a)
theorem k0_idx54_inb : ∀ (v3 : IVec S16 32) (v873 : IVec S16 32) (k0_hw86 : k0_chk86 v3 v873), ∀ a x, ((![v3, v873] : Fin 2 → IVec S16 32) a x).toNat < S16x512.size a := fun v3 v873 k0_hw86 => k0_hw86

def k0_chk87 (v3 : IVec S16 32) (v875 : IVec S16 32) (v876 : IVec S16 32) : Prop :=
  (∀ a x, ((![v875, v3, v876] : Fin 3 → IVec S16 32) a x).toNat < S32x16x16.size a)
theorem k0_idx55_inb : ∀ (v3 : IVec S16 32) (v875 : IVec S16 32) (v876 : IVec S16 32) (k0_hw87 : k0_chk87 v3 v875 v876), ∀ a x, ((![v875, v3, v876] : Fin 3 → IVec S16 32) a x).toNat < S32x16x16.size a := fun v3 v875 v876 k0_hw87 => k0_hw87

def k0_chk88 (v3 : IVec S16 32) (v880 : IVec S16 32) : Prop :=
  (∀ a x, ((![v3, v880] : Fin 2 → IVec S16 32) a x).toNat < S16x512.size a)
theorem k0_idx56_inb : ∀ (v3 : IVec S16 32) (v880 : IVec S16 32) (k0_hw88 : k0_chk88 v3 v880), ∀ a x, ((![v3, v880] : Fin 2 → IVec S16 32) a x).toNat < S16x512.size a := fun v3 v880 k0_hw88 => k0_hw88

def k0_chk89 (v3 : IVec S16 32) (v882 : IVec S16 32) (v883 : IVec S16 32) : Prop :=
  (∀ a x, ((![v882, v3, v883] : Fin 3 → IVec S16 32) a x).toNat < S32x16x16.size a)
theorem k0_idx57_inb : ∀ (v3 : IVec S16 32) (v882 : IVec S16 32) (v883 : IVec S16 32) (k0_hw89 : k0_chk89 v3 v882 v883), ∀ a x, ((![v882, v3, v883] : Fin 3 → IVec S16 32) a x).toNat < S32x16x16.size a := fun v3 v882 v883 k0_hw89 => k0_hw89

def k0_chk90 (v3 : IVec S16 32) (v887 : IVec S16 32) : Prop :=
  (∀ a x, ((![v3, v887] : Fin 2 → IVec S16 32) a x).toNat < S16x512.size a)
theorem k0_idx58_inb : ∀ (v3 : IVec S16 32) (v887 : IVec S16 32) (k0_hw90 : k0_chk90 v3 v887), ∀ a x, ((![v3, v887] : Fin 2 → IVec S16 32) a x).toNat < S16x512.size a := fun v3 v887 k0_hw90 => k0_hw90

def k0_chk91 (v3 : IVec S16 32) (v889 : IVec S16 32) (v890 : IVec S16 32) : Prop :=
  (∀ a x, ((![v889, v3, v890] : Fin 3 → IVec S16 32) a x).toNat < S32x16x16.size a)
theorem k0_idx59_inb : ∀ (v3 : IVec S16 32) (v889 : IVec S16 32) (v890 : IVec S16 32) (k0_hw91 : k0_chk91 v3 v889 v890), ∀ a x, ((![v889, v3, v890] : Fin 3 → IVec S16 32) a x).toNat < S32x16x16.size a := fun v3 v889 v890 k0_hw91 => k0_hw91

def k0_chk92 (v3 : IVec S16 32) (v894 : IVec S16 32) : Prop :=
  (∀ a x, ((![v3, v894] : Fin 2 → IVec S16 32) a x).toNat < S16x512.size a)
theorem k0_idx60_inb : ∀ (v3 : IVec S16 32) (v894 : IVec S16 32) (k0_hw92 : k0_chk92 v3 v894), ∀ a x, ((![v3, v894] : Fin 2 → IVec S16 32) a x).toNat < S16x512.size a := fun v3 v894 k0_hw92 => k0_hw92

def k0_chk93 (v3 : IVec S16 32) (v896 : IVec S16 32) (v897 : IVec S16 32) : Prop :=
  (∀ a x, ((![v896, v3, v897] : Fin 3 → IVec S16 32) a x).toNat < S32x16x16.size a)
theorem k0_idx61_inb : ∀ (v3 : IVec S16 32) (v896 : IVec S16 32) (v897 : IVec S16 32) (k0_hw93 : k0_chk93 v3 v896 v897), ∀ a x, ((![v896, v3, v897] : Fin 3 → IVec S16 32) a x).toNat < S32x16x16.size a := fun v3 v896 v897 k0_hw93 => k0_hw93

def k0_chk94 (v3 : IVec S16 32) (v901 : IVec S16 32) : Prop :=
  (∀ a x, ((![v3, v901] : Fin 2 → IVec S16 32) a x).toNat < S16x512.size a)
theorem k0_idx62_inb : ∀ (v3 : IVec S16 32) (v901 : IVec S16 32) (k0_hw94 : k0_chk94 v3 v901), ∀ a x, ((![v3, v901] : Fin 2 → IVec S16 32) a x).toNat < S16x512.size a := fun v3 v901 k0_hw94 => k0_hw94

def k0_chk95 (v3 : IVec S16 32) (v903 : IVec S16 32) (v904 : IVec S16 32) : Prop :=
  (∀ a x, ((![v903, v3, v904] : Fin 3 → IVec S16 32) a x).toNat < S32x16x16.size a)
theorem k0_idx63_inb : ∀ (v3 : IVec S16 32) (v903 : IVec S16 32) (v904 : IVec S16 32) (k0_hw95 : k0_chk95 v3 v903 v904), ∀ a x, ((![v903, v3, v904] : Fin 3 → IVec S16 32) a x).toNat < S32x16x16.size a := fun v3 v903 v904 k0_hw95 => k0_hw95

def k0_chk96 (v3 : IVec S16 32) (v908 : IVec S16 32) : Prop :=
  (∀ a x, ((![v3, v908] : Fin 2 → IVec S16 32) a x).toNat < S16x512.size a)
theorem k0_idx64_inb : ∀ (v3 : IVec S16 32) (v908 : IVec S16 32) (k0_hw96 : k0_chk96 v3 v908), ∀ a x, ((![v3, v908] : Fin 2 → IVec S16 32) a x).toNat < S16x512.size a := fun v3 v908 k0_hw96 => k0_hw96
def k0_off66 (i : grid0.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16 : Shape := ⟨2, ![1000000, 16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x16, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x16, .f32⟩
  | .hbm, ⟨21, _⟩ => ⟨S16384x16, .i1⟩
  | .hbm, ⟨22, _⟩ => ⟨S_, .f32⟩
  | .hbm, ⟨23, _⟩ => ⟨S16384x16, .f32⟩
  | .hbm, ⟨24, _⟩ => ⟨S16384x16, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Values.lean ====
/-
  The pure part of the proof: what the words and vectors that a tile computes are.

  A tile handles its indices thirty-two at a time. For each it takes the index out of a vector of
  sixteen (keep one lane, clear the rest, add the lanes up), copies the eight table columns that
  contain the indexed one into a slot of its ring, and later reads the one column out of the slot
  and writes it to a column of its block of the result. This file states, over plain functions,
  which word is taken (`pick`), that each side condition the kernel checks holds of it (`chk_word`,
  `chk_gather`, `chk_scatter`), and what the read and the write of a column do (`loadIdx_landed`,
  `storeIdx_apply`).
-/
module

public import proofs.«01_k».proof.Proof.Gen.KernelIdeal

@[expose] public section

noncomputable section

namespace Cert.KernelIdeal.Col

open Idealize.ShloMosaic

/-! ## Indices by their coordinates -/

/-- Lane `l` of a vector of sixteen. -/
def lane (l : Fin 16) : S16.Idx := Shape.ofLane (d := ![16]) l

/-- Position `j`, taken modulo 512, of a tile's list of indices. -/
def pos (j : ℕ) : S512.Idx := Shape.ofLane (d := ![512]) ⟨j % 512, Nat.mod_lt _ (by decide)⟩

/-- Row `l` and column `n`, taken modulo the table's length, of the transposed table. -/
def cell (l : Fin 16) (n : ℕ) : S16x1000000.Idx
  | ⟨0, _⟩ => l
  | ⟨1, _⟩ => ⟨n % 1000000, Nat.mod_lt _ (by decide)⟩

/-- Two indices of the transposed table are equal when their row and column numbers are. -/
theorem cell_ext {i i' : S16x1000000.Idx} (h0 : (i 0).val = (i' 0).val) (h1 : (i 1).val = (i' 1).val) : i = i' :=
  funext fun a => match a with
    | ⟨0, _⟩ => Fin.ext h0
    | ⟨1, _⟩ => Fin.ext h1

/-! ## The word taken out of a vector -/

/-- Adding up a list of distinct lanes of a vector that is `x` at lane `l` and zero elsewhere adds `x` exactly
    when the list has `l`. -/
theorem foldl_onehot (l : Fin 16) (x : BitVec 32) (g : Fin 16 → BitVec 32) (hg : ∀ k, g k = if k = l then x else 0) :
    ∀ (L : List (Fin 16)), L.Nodup → ∀ a : BitVec 32,
      L.foldl (fun r k => r + g k) a = a + if l ∈ L then x else 0
  | [], _, a => by simp
  | k :: L, hL, a => by
    rw [List.foldl_cons, foldl_onehot l x g hg L (List.nodup_cons.1 hL).2, hg]
    have hk := (List.nodup_cons.1 hL).1
    by_cases h : k = l
    · subst h
      simp [hk]
    · have h' : ¬ l = k := fun e => h e.symm
      simp [h, h']

/-- The word the kernel extracts for lane `l`: the lane numbers compared with `l`, the other lanes of `v` cleared, the
    running sum's last entry. It is `v`'s entry at lane `l`. -/
theorem pick {v3 : IVec S16 32} (hv3 : ∀ x, v3 x = BitVec.ofNat 32 (x 0).val) (v : IVec S16 32) (l : ℕ) (hl : l < 16)
    (h : ∀ a, (![15] : Fin 1 → Nat) a < S16.size a) :
    extractAt ![15] (scan .sum (select (cmpi .eq v3 (broadcast S16 (BitVec.ofNat 32 l))) v (broadcast S16 0#32))) h = v (lane ⟨l, hl⟩) := by
  have hg : ∀ k : Fin 16, select (cmpi .eq v3 (broadcast S16 (BitVec.ofNat 32 l))) v (broadcast S16 0#32) (lane k)
      = if k = ⟨l, hl⟩ then v (lane ⟨l, hl⟩) else 0 := by
    intro k
    have hk := k.isLt
    have h1 : cmpi .eq v3 (broadcast S16 (BitVec.ofNat 32 l)) (lane k) = BitVec.ofBool (v3 (lane k) == BitVec.ofNat 32 l) := rfl
    have h2 : v3 (lane k) = BitVec.ofNat 32 k.val := hv3 _
    have h3 : select (cmpi .eq v3 (broadcast S16 (BitVec.ofNat 32 l))) v (broadcast S16 0#32) (lane k)
        = if (BitVec.ofBool (v3 (lane k) == BitVec.ofNat 32 l)) = 1 then v (lane k) else 0#32 := rfl
    rw [h3, h2]
    by_cases e : k.val = l
    · have : k = ⟨l, hl⟩ := Fin.ext e
      subst this
      simp
    · have hne : ¬ k = ⟨l, hl⟩ := fun e' => e (by rw [e'])
      have hb : (BitVec.ofNat 32 k.val == BitVec.ofNat 32 l) = false := by
        rw [beq_eq_false_iff_ne]
        intro e'
        have := congrArg BitVec.toNat e'
        simp only [BitVec.toNat_ofNat] at this
        omega
      rw [hb, if_neg hne]
      rfl
  have hs : ∀ u : IVec S16 32, extractAt ![15] (scan .sum u) h
      = ((List.finRange 16).filter fun k => decide (0 < k.val ∧ k.val ≤ 15)).foldl (fun r k => r + u (lane k)) (u (lane 0)) := fun _ => rfl
  rw [hs, foldl_onehot ⟨l, hl⟩ (v (lane ⟨l, hl⟩)) (fun k => select (cmpi .eq v3 (broadcast S16 (BitVec.ofNat 32 l))) v (broadcast S16 0#32) (lane k)) hg
    _ ((List.nodup_finRange 16).filter _), hg]
  by_cases e : l = 0
  · subst e
    simp
  · have h0 : ¬ (0 : Fin 16) = ⟨l, hl⟩ := fun e' => e (congrArg Fin.val e').symm
    have hm : (⟨l, hl⟩ : Fin 16) ∈ (List.finRange 16).filter fun k => decide (0 < k.val ∧ k.val ≤ 15) := by
      simp only [List.mem_filter, List.mem_finRange, decide_eq_true_eq, true_and]
      omega
    rw [if_neg h0, if_pos hm]
    simp

/-! ## The side conditions -/

/-- A word with its three lowest bits cleared is eight times its quotient by eight. -/
theorem base_toNat (v : BitVec 32) : (v &&& 4294967288#32).toNat = v.toNat / 8 * 8 := by
  have hm : ∀ i < 32, (4294967288#32).getLsbD i = decide (3 ≤ i) := by decide
  have h : v &&& 4294967288#32 = (v >>> 3) <<< 3 := by
    apply BitVec.eq_of_getLsbD_eq
    intro i hi
    rw [BitVec.getLsbD_and, hm i hi, BitVec.getLsbD_shiftLeft, BitVec.getLsbD_ushiftRight]
    by_cases h3 : 3 ≤ i
    · have h3' : ¬ i < 3 := by omega
      have h4 : 3 + (i - 3) = i := by omega
      simp [hi, h3, h3', h4]
    · have h3' : i < 3 := by omega
      simp [h3, h3']
  rw [h]
  have := v.isLt
  simp only [BitVec.toNat_shiftLeft, BitVec.toNat_ushiftRight, Nat.shiftLeft_eq, Nat.shiftRight_eq_div_pow]
  omega

/-- A word's three lowest bits are its remainder by eight. -/
theorem rem_toNat (v : BitVec 32) : (v &&& 7#32).toNat = v.toNat % 8 := by
  rw [BitVec.toNat_and]
  exact Nat.and_two_pow_sub_one_eq_mod v.toNat 3

/-- The table columns a word's copy starts at, as the kernel computes them: the multiple of eight below the word. -/
theorem base_off {v x : BitVec 32} (h : v = x) :
    (![0, (Scalar.andi v 4294967288#32).toNat] : Fin 2 → ℕ) = ![0, x.toNat / 8 * 8] := by
  subst h
  exact congrArg (fun n => (![0, n] : Fin 2 → ℕ)) (base_toNat v)

/-- The eight columns of a table index lie inside the table, on both axes. -/
theorem base_inb {v x : BitVec 32} (h : v = x) (hx : x.toNat < 1000000) :
    ∀ a, (![0, (Scalar.andi v 4294967288#32).toNat] : Fin 2 → ℕ) a + S16x8.size a ≤ S16x1000000.size a := by
  rw [base_off h]
  intro a
  match a with
  | ⟨0, _⟩ => exact (show 0 + 16 ≤ 16 by omega)
  | ⟨1, _⟩ => exact (show x.toNat / 8 * 8 + 8 ≤ 1000000 by omega)

/-- What the kernel checks of a taken word before its copy and its wait: its column base is a multiple of eight, and
    the columns read are inside the table. -/
theorem chk_word {v x : BitVec 32} (h : v = x) (hx : x.toNat < 1000000) :
    8 ∣ (Scalar.andi v 4294967288#32).toNat
      ∧ (∀ a, (![0, (Scalar.andi v 4294967288#32).toNat] : Fin 2 → ℕ) a + S16x8.size a ≤ S16x1000000.size a)
      ∧ (∀ a, (![0, (Scalar.andi v 4294967288#32).toNat] : Fin 2 → ℕ) a + S16x8.size a ≤ S16x1000000.size a) :=
  ⟨⟨v.toNat / 8, (base_toNat v).trans (Nat.mul_comm _ _)⟩, base_inb h hx, base_inb h hx⟩

/-- The same check where the kernel states the columns' bound once. -/
theorem chk_word_one {v x : BitVec 32} (h : v = x) (hx : x.toNat < 1000000) :
    8 ∣ (Scalar.andi v 4294967288#32).toNat
      ∧ (∀ a, (![0, (Scalar.andi v 4294967288#32).toNat] : Fin 2 → ℕ) a + S16x8.size a ≤ S16x1000000.size a) :=
  ⟨(chk_word h hx).1, (chk_word h hx).2.1⟩

/-- What the kernel checks before it reads a column of slot `s` of the ring: the slot, the lanes and the column are
    inside the ring. -/
theorem chk_gather {v3 : IVec S16 32} (hv3 : ∀ x, v3 x = BitVec.ofNat 32 (x 0).val) (s : ℕ) (hs : s < 32) (v : BitVec 32) :
    ∀ a x, ((![broadcast S16 (BitVec.ofNat 32 s), v3, broadcast S16 (Scalar.andi v 7#32)] : Fin 3 → IVec S16 32) a x).toNat < S32x16x16.size a := by
  intro a x
  match a with
  | ⟨0, _⟩ => exact (show (BitVec.ofNat 32 s).toNat < 32 by rw [BitVec.toNat_ofNat]; omega)
  | ⟨1, _⟩ =>
    exact (show (v3 x).toNat < 16 by
      rw [hv3, BitVec.toNat_ofNat]; have : (x 0).val < 16 := (x 0).isLt; omega)
  | ⟨2, _⟩ => exact (show (v &&& 7#32).toNat < 16 by rw [rem_toNat]; omega)

/-- The column a trip writes its `s`-th answer to: thirty-two times the trip's number, plus `s`. -/
theorem col_toNat (t s : ℕ) (ht : t < 16) (hs : s < 32) :
    (Scalar.addi (Scalar.muli (BitVec.ofNat 32 t) 32#32) (BitVec.ofNat 32 s)).toNat = 32 * t + s := by
  show (BitVec.ofNat 32 t * 32#32 + BitVec.ofNat 32 s).toNat = _
  simp only [BitVec.toNat_add, BitVec.toNat_mul, BitVec.toNat_ofNat]
  omega

/-- What the kernel checks before it writes a column of the result's block: the lanes and the column are inside it. -/
theorem chk_scatter {v3 : IVec S16 32} (hv3 : ∀ x, v3 x = BitVec.ofNat 32 (x 0).val) {w : BitVec 32} {n : ℕ} (hw : w.toNat = n) (hn : n < 512) :
    ∀ a x, ((![v3, broadcast S16 w] : Fin 2 → IVec S16 32) a x).toNat < S16x512.size a := by
  intro a x
  match a with
  | ⟨0, _⟩ =>
    exact (show (v3 x).toNat < 16 by
      rw [hv3, BitVec.toNat_ofNat]; have : (x 0).val < 16 := (x 0).isLt; omega)
  | ⟨1, _⟩ => exact (show w.toNat < 512 by omega)

/-! ## The read and the write of a column -/

variable {F : FTy → Type} [FloatOps F]

/-- The ring once the copies of the words `W` have landed over `f0`: in slot `s`, row `l`, the first eight entries
    are the table's row `l` at the eight columns from the base of `W s`; the rest is `f0`'s. -/
def landed (W : ℕ → BitVec 32) (fT : S16x1000000.Idx → Elt F .f32) (f0 : S32x16x16.Idx → Elt F .f32) : S32x16x16.Idx → Elt F .f32 :=
  fun i => if (i 2).val < 8 then fT (cell (i 1) ((W (i 0).val).toNat / 8 * 8 + (i 2).val)) else f0 i

/-- The column of the table that the word `w` names, as a vector over the sixteen rows. -/
def column (fT : S16x1000000.Idx → Elt F .f32) (w : BitVec 32) : S16.Idx → Elt F .f32 :=
  fun x => fT (cell (x 0) w.toNat)

/-- Reading, out of slot `s` of the landed ring, the column numbered by the word's remainder by eight gives the
    column of the table that the word names. -/
theorem loadIdx_landed {v3 : IVec S16 32} (hv3 : ∀ x, v3 x = BitVec.ofNat 32 (x 0).val) (W : ℕ → BitVec 32)
    (fT : S16x1000000.Idx → Elt F .f32) (f0 : S32x16x16.Idx → Elt F .f32) (s : ℕ) (hs : s < 32) {v : BitVec 32} (hv : v = W s)
    (h : ∀ a x, ((![broadcast S16 (BitVec.ofNat 32 s), v3, broadcast S16 (Scalar.andi v 7#32)] : Fin 3 → IVec S16 32) a x).toNat < S32x16x16.size a) :
    loadIdx (F := F) (s := S32x16x16) (e := .f32) (landed W fT f0) ![broadcast S16 (BitVec.ofNat 32 s), v3, broadcast S16 (Scalar.andi v 7#32)] h
      = column fT (W s) := by
  subst hv
  funext x
  have h0 : (idxAt (s := S32x16x16) _ h x 0).val = s := by
    show (BitVec.ofNat 32 s).toNat = s
    rw [BitVec.toNat_ofNat]; omega
  have h1 : (idxAt (s := S32x16x16) _ h x 1).val = (x 0).val := by
    show (v3 x).toNat = _
    rw [hv3, BitVec.toNat_ofNat]; have : (x 0).val < 16 := (x 0).isLt; omega
  have h2 : (idxAt (s := S32x16x16) _ h x 2).val = (W s).toNat % 8 := rem_toNat (W s)
  show landed W fT f0 (idxAt (s := S32x16x16) _ h x) = fT (cell (x 0) (W s).toNat)
  unfold landed
  rw [if_pos (by rw [h2]; omega), h0]
  refine congrArg fT (cell_ext h1 ?_)
  show ((W s).toNat / 8 * 8 + (idxAt (s := S32x16x16) _ h x 2).val) % 1000000 = (W s).toNat % 1000000
  rw [h2, Nat.div_add_mod']

/-- Steps applied one after the other, each of which sets the entry `i` to `x` when it is the step of `r` and the
    condition `Q` holds, and leaves it alone otherwise: `i` ends at `x` if the list has `r` and `Q` holds, and is left
    alone otherwise. -/
theorem foldl_write {ι α κ : Type} [DecidableEq κ] (step : (ι → α) → κ → ι → α) (i : ι) (x : α) (r : κ) {Q : Prop} [Decidable Q]
    (hstep : ∀ g k, step g k i = if r = k ∧ Q then x else g i) :
    ∀ (L : List κ) (g : ι → α), L.foldl step g i = if r ∈ L ∧ Q then x else g i
  | [], g => by simp
  | k :: L, g => by
    rw [List.foldl_cons, foldl_write step i x r hstep L, hstep]
    by_cases hc : Q <;> by_cases hl : r ∈ L <;> by_cases hk : r = k <;> simp [hc, hl, hk]

/-- The same for a list that has `r`. -/
theorem foldl_write_mem {ι α κ : Type} [DecidableEq κ] (step : (ι → α) → κ → ι → α) (i : ι) (x : α) (r : κ) {Q : Prop} [Decidable Q]
    (hstep : ∀ g k, step g k i = if r = k ∧ Q then x else g i) (L : List κ) (hr : r ∈ L) (g : ι → α) :
    L.foldl step g i = if Q then x else g i := by
  rw [foldl_write step i x r hstep]
  by_cases hc : Q <;> simp [hc, hr]

/-- A conditional does not depend on how its condition is decided. -/
theorem ite_any {α : Type} {p : Prop} (d d' : Decidable p) (x y : α) : @ite α p d x y = @ite α p d' x y := by
  rw [Subsingleton.elim d d']

/-- Writing a vector to column `n` of the result's block leaves, at row `l` and column `c`, the vector's lane `l`
    when `c` is `n`, and what was there before otherwise. -/
theorem storeIdx_apply {v3 : IVec S16 32} (hv3 : ∀ x, v3 x = BitVec.ofNat 32 (x 0).val) {w : BitVec 32} {n : ℕ} (hw : w.toNat = n)
    (f : S16x512.Idx → Elt F .f32) (v : S16.Idx → Elt F .f32)
    (h : ∀ a x, ((![v3, broadcast S16 w] : Fin 2 → IVec S16 32) a x).toNat < S16x512.size a) (i : S16x512.Idx) :
    storeIdx (F := F) (s := S16x512) (e := .f32) f ![v3, broadcast S16 w] v (fun _ => 1#1) false h i
      = if (i 1).val = n then v (lane (i 0)) else f i := by
  obtain ⟨r, hr⟩ : ∃ r : Fin 16, i 0 = r := ⟨_, rfl⟩
  have hp : ∀ k : Fin 16, (∀ a, (i a).val = (idxAt (s := S16x512) ![v3, broadcast S16 w] h (lane k) a).val)
      ↔ r = k ∧ (i 1).val = n := by
    intro k
    have hk0 : (idxAt (s := S16x512) ![v3, broadcast S16 w] h (lane k) 0).val = k.val := by
      show (v3 (lane k)).toNat = _
      rw [hv3, BitVec.toNat_ofNat]
      have := k.isLt
      show k.val % _ = _
      omega
    have hk1 : (idxAt (s := S16x512) ![v3, broadcast S16 w] h (lane k) 1).val = n := hw
    constructor
    · intro H
      exact ⟨hr.symm.trans (Fin.ext ((H 0).trans hk0)), (H 1).trans hk1⟩
    · rintro ⟨e0, e1⟩ a
      match a with
      | ⟨0, _⟩ => exact (congrArg Fin.val (hr.trans e0)).trans hk0.symm
      | ⟨1, _⟩ => exact e1.trans hk1.symm
  have hstep : ∀ (g : S16x512.Idx → Elt F .f32) (k : Fin 16),
      (if (∀ a, (i a).val = (idxAt (s := S16x512) ![v3, broadcast S16 w] h (lane k) a).val) then v (lane k) else g i)
        = if r = k ∧ (i 1).val = n then v (lane r) else g i := by
    intro g k
    by_cases e : r = k ∧ (i 1).val = n
    · rw [if_pos ((hp k).2 e), if_pos e, e.1]
    · rw [if_neg (fun H => e ((hp k).1 H)), if_neg e]
  rw [hr]
  unfold storeIdx
  refine foldl_write_mem (κ := Fin 16) _ i (v (lane r)) r (Q := (i 1).val = n) ?_ _ (List.mem_finRange r) f
  intro g k
  refine Eq.trans ?_ (hstep g k)
  exact (congrFun (if_pos rfl) i).trans (ite_any _ _ _ _)

end Cert.KernelIdeal.Col

end
-- ==== Proof.Setup.lean ====
/-
  The program as the launch theorem sees it, the buffers, and the pieces of them that the copies name.
-/
module

public import proofs.«01_k».proof.Proof.Values
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.KernelIdeal.Col

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program with its pipelines (it has none) adjoined. -/
abbrev ΛP : Labels := Pipeline.Sig Λ₀ (Fin 0) fun p => (pcfgs (F := F) p).Adm
/-- The one SparseCore call. -/
abbrev K : SparseCore.Cfg τ sig (ΛP (F := F)) 1 := sc (F := F)
/-- The program's definitions. -/
abbrev D [FloatOps F] : Defs nD τ sig (Elt F) (ΛP (F := F)) := Pipeline.defs pcfgs defs₀
/-- No call is nested, so no variants are needed. -/
abbrev 𝒱₀ : Variants := Variants.none
/-- The same beside the pipelines' labels. -/
abbrev 𝒱 : Variants := 𝒱₀.lift
/-- The one variant. -/
abbrev v₀ : 𝒱.V := Sum.inl none

/-- The call runs on two SparseCores. -/
theorem nCore_zero : (K (F := F)).nCore 0 = 2 := rfl
/-- Each has sixteen tiles. -/
theorem nSub_zero : (K (F := F)).nSub 0 = 16 := rfl

/-- The call's semaphores are distinct and scoped as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The proof's ghost state: the handshakes' rounds and the copies' counters. -/
abbrev UU : Type := UH × Counters

local notation "𝕄" => MT nD τ sig (HIx 1) (Elt F) ℕ UU ℕ

/-- The handshakes' part of the ghost state. -/
abbrev EH : Emb UH (MT nD τ sig (HIx 1) (Elt F) ℕ UU ℕ) := embL

/-! ## The buffers -/

/-- The transposed table. -/
abbrev tabM : Memref sig .scVector .hbm S16x1000000 .f32 := Memref.whole main_v1_scv
/-- The indices, a row of 512 for each tile. -/
abbrev idxM : Memref sig .scVector .hbm S32x512 .i32 := Memref.whole main_v0_scv
/-- The transposed result. -/
abbrev outM : Memref sig .scVector .hbm S16x16384 .f32 := Memref.whole main_v2_scv
/-- A tile's list of indices. -/
abbrev lstM : Memref sig .scVector .vmem S512 .i32 := Memref.whole cc0_scratch0
/-- A tile's ring of slots. -/
abbrev ringM : Memref sig .scVector .vmem S32x16x16 .f32 := Memref.whole cc0_scratch1
/-- A tile's block of the result. -/
abbrev blkM : Memref sig .scVector .vmem S16x512 .f32 := Memref.whole cc0_scratch2

/-! ## The slots of the ring and the columns of the table -/

/-- The eight leading columns of each row of one slot of the ring, at offsets `o`. -/
abbrev slotAt (o : Fin 3 → ℕ) (h : ∀ a, o a + S1x16x8.size a ≤ S32x16x16.size a) : Memref sig .scVector .vmem S16x8 .f32 :=
  (ringM.slice (Rect.unit (s := S32x16x16) o S1x16x8.size h) (fun _ => rfl)).squeeze S16x8 squeezes_S1x16x8_S16x8

/-- Eight columns of the transposed table, at offsets `o`. -/
abbrev colsAt (o : Fin 2 → ℕ) (h : ∀ a, o a + S16x8.size a ≤ S16x1000000.size a) : Memref sig .scVector .hbm S16x8 .f32 :=
  tabM.slice (Rect.unit (s := S16x1000000) o S16x8.size h) (fun _ => rfl)

/-- Slot `s` is inside the ring. -/
theorem slot_inb (s : Fin 32) : ∀ a, (![s.val, 0, 0] : Fin 3 → ℕ) a + S1x16x8.size a ≤ S32x16x16.size a := by
  intro a
  match a with
  | ⟨0, _⟩ => exact (show s.val + 1 ≤ 32 from s.isLt)
  | ⟨1, _⟩ => exact (show 0 + 16 ≤ 16 by omega)
  | ⟨2, _⟩ => exact (show 0 + 8 ≤ 16 by omega)

/-- The eight columns that hold a table index are inside the table. -/
theorem cols_inb {n : ℕ} (hn : n < 1000000) : ∀ a, (![0, n / 8 * 8] : Fin 2 → ℕ) a + S16x8.size a ≤ S16x1000000.size a := by
  intro a
  match a with
  | ⟨0, _⟩ => exact (show 0 + 16 ≤ 16 by omega)
  | ⟨1, _⟩ => exact (show n / 8 * 8 + 8 ≤ 1000000 by omega)

/-- Slot `s` of the ring. -/
abbrev slotM (s : Fin 32) : Memref sig .scVector .vmem S16x8 .f32 := slotAt ![s.val, 0, 0] (slot_inb s)

/-- The eight columns of the table that hold index `n`. -/
abbrev colsM {n : ℕ} (hn : n < 1000000) : Memref sig .scVector .hbm S16x8 .f32 := colsAt ![0, n / 8 * 8] (cols_inb hn)

/-- Where entry `(l, e)` of slot `s` is in the ring: at `s`, `l`, `e`. -/
theorem slotM_emb (s : Fin 32) (x : S16x8.Idx) :
    ((slotM s).view.emb x 0).val = s.val ∧ ((slotM s).view.emb x 1).val = (x 0).val ∧ ((slotM s).view.emb x 2).val = (x 1).val := by
  have h : Shape.reshapeEquiv (s := S1x16x8) (s' := S16x8) squeezes_S1x16x8_S16x8.numel_eq x = Fin.cons ⟨0, Nat.one_pos⟩ x :=
    Shape.reshapeEquiv_cons_one (d := ![16, 8]) _ x
  have e : (slotM s).view.emb x = (Rect.unit (s := S32x16x16) ![s.val, 0, 0] S1x16x8.size (slot_inb s)).emb
      (Shape.reshapeEquiv (s := S1x16x8) (s' := S16x8) squeezes_S1x16x8_S16x8.numel_eq x) := rfl
  rw [e, h]
  refine ⟨?_, ?_, ?_⟩
  · exact (show s.val + 1 * 0 = s.val by omega)
  · exact (show 0 + 1 * (x 0).val = (x 0).val by omega)
  · exact (show 0 + 1 * (x 1).val = (x 1).val by omega)

/-- Where entry `(l, e)` of the eight columns that hold index `n` is in the table: row `l`, the `e`-th column from
    the multiple of eight below `n`. -/
theorem colsM_emb {n : ℕ} (hn : n < 1000000) (x : S16x8.Idx) : (colsM hn).view.emb x = cell (x 0) (n / 8 * 8 + (x 1).val) := by
  have hx : (x 1).val < 8 := (x 1).isLt
  refine cell_ext ?_ ?_
  · exact (show 0 + 1 * (x 0).val = (x 0).val by omega)
  · exact (show n / 8 * 8 + 1 * (x 1).val = (n / 8 * 8 + (x 1).val) % 1000000 by omega)

/-- What a copy of the eight columns that hold `W s` leaves in slot `s`, whatever the ring held: the entries of the
    landed ring there. -/
theorem write_landed (W : ℕ → BitVec 32) (fT : S16x1000000.Idx → Elt F .f32) (f0 g : S32x16x16.Idx → Elt F .f32) (s : Fin 32)
    (hn : (W s.val).toNat < 1000000) (i : S32x16x16.Idx) (hi : i ∈ (slotM s).view.set) :
    (slotM s).view.write (Elt F) g ((colsM hn).view.read (Elt F) fT) Finset.univ i = landed W fT f0 i := by
  obtain ⟨x, -, rfl⟩ := Finset.mem_map.1 hi
  obtain ⟨e0, e1, e2⟩ := slotM_emb s x
  have hx : (x 1).val < 8 := (x 1).isLt
  have hr : (colsM hn).view.read (Elt F) fT x = fT (cell (x 0) ((W s.val).toNat / 8 * 8 + (x 1).val)) :=
    ((View.read_apply _ _).trans (cast_eq _ _)).trans (congrArg fT (colsM_emb hn x))
  have hw : (slotM s).view.write (Elt F) g ((colsM hn).view.read (Elt F) fT) Finset.univ ((slotM s).view.emb x)
      = (colsM hn).view.read (Elt F) fT x := (View.write_emb_of_mem _ _ (Finset.mem_univ x)).trans (cast_eq _ _)
  rw [hw, hr]
  unfold landed
  rw [if_pos (by rw [e2]; exact hx), e0, e2]
  exact congrArg fT (cell_ext e1.symm rfl)

/-- Outside the slots the landed ring holds what was there before. -/
theorem landed_rest (W : ℕ → BitVec 32) (fT : S16x1000000.Idx → Elt F .f32) (f0 : S32x16x16.Idx → Elt F .f32) (i : S32x16x16.Idx)
    (hi : ∀ s : Fin 32, i ∉ (slotM s).view.set) : landed W fT f0 i = f0 i := by
  unfold landed
  refine if_neg fun h => hi (i 0) ?_
  let x : S16x8.Idx := fun a => match a with
    | ⟨0, _⟩ => i 1
    | ⟨1, _⟩ => ⟨(i 2).val, h⟩
  have e := slotM_emb (i 0) x
  refine Finset.mem_map.2 ⟨x, Finset.mem_univ _, ?_⟩
  funext a
  match a with
  | ⟨0, _⟩ => exact Fin.ext e.1
  | ⟨1, _⟩ => exact Fin.ext e.2.1
  | ⟨2, _⟩ => exact Fin.ext e.2.2

/-- The slots do not overlap. -/
theorem slots_disjoint : ∀ s ∈ (Finset.univ : Finset (Fin 32)), ∀ s' ∈ (Finset.univ : Finset (Fin 32)), s ≠ s' →
    Disjoint (slotM s).view.set (slotM s').view.set := by
  intro s _ s' _ hne
  rw [Finset.disjoint_left]
  intro i h h'
  obtain ⟨x, -, rfl⟩ := Finset.mem_map.1 h
  obtain ⟨y, -, e⟩ := Finset.mem_map.1 h'
  have h0 := (slotM_emb s x).1
  rw [← e, (slotM_emb s' y).1] at h0
  exact hne (Fin.ext h0.symm)

/-! ## Shares -/

/-- Share `i` of the two-to-the-`n` equal shares that halving `q` again and again gives. -/
def piece : (n : ℕ) → PosShare TreeShare → ℕ → PosShare TreeShare
  | 0, q, _ => q
  | n + 1, q, i => if i % 2 = 0 then piece n q.left (i / 2) else piece n q.right (i / 2)

/-- A number below twice `n` as its half and its parity. -/
def parity (n : ℕ) : Fin 2 × Fin n ≃ Fin (2 * n) where
  toFun p := ⟨2 * p.2.val + p.1.val, by omega⟩
  invFun i := (⟨i.val % 2, by omega⟩, ⟨i.val / 2, by omega⟩)
  left_inv p := by
    refine Prod.ext (Fin.ext ?_) (Fin.ext ?_)
    · show (2 * p.2.val + p.1.val) % 2 = _; omega
    · show (2 * p.2.val + p.1.val) / 2 = _; omega
  right_inv i := Fin.ext (by show 2 * (i.val / 2) + i.val % 2 = _; omega)

/-- Holding elements at a share is holding them at each of its equal shares. -/
theorem pointsTo_pieces {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{piece n q i.val} f
  | 0, q => (bigSep_univ_of_subsingleton (0 : Fin 1) (Φ := fun i : Fin (2 ^ 0) => (ℓ ↦[I]{piece 0 q i.val} f : sProp 𝕄))).symm
  | n + 1, q => by
    have hs := pointsTo_share (ℓ := ℓ) (I := I) (f := f) (Val := Elt F) (Ix := HIx 1) (Name := ℕ) (U := UU) (Lvl := ℕ) (PosShare.mem_left_op_right q)
    have e : 2 * 2 ^ n = 2 ^ (n + 1) := by rw [Nat.pow_succ, Nat.mul_comm]
    rw [BI.Entails.antisymm hs.1 hs.2, pointsTo_pieces I f n q.left, pointsTo_pieces I f n q.right,
      bigSep_univ_equiv ((parity (2 ^ n)).trans (finCongr e)) (fun i : Fin (2 ^ (n + 1)) => (ℓ ↦[I]{piece (n + 1) q i.val} f : sProp 𝕄)),
      bigSep_univ_prod, bigSep_univ_two]
    refine congrArg₂ _ (bigSep_congr fun i _ => ?_) (bigSep_congr fun i _ => ?_)
    · show _ = (ℓ ↦[I]{piece (n + 1) q (2 * i.val + 0)} f : sProp 𝕄)
      rw [piece, if_pos (by omega), show (2 * i.val + 0) / 2 = i.val by omega]
    · show _ = (ℓ ↦[I]{piece (n + 1) q (2 * i.val + 1)} f : sProp 𝕄)
      rw [piece, if_neg (by omega), show (2 * i.val + 1) / 2 = i.val by omega]

end Cert.KernelIdeal.Col

end
-- ==== Proof.Steps.lean ====
/-
  The steps a tile's trip is made of, each as a rule on what the tile holds: the copies started, the copies
  waited for, the columns read out of the ring and stored in the block.
-/
module

public import proofs.«01_k».proof.Proof.Setup

@[expose] public section

noncomputable section

namespace Cert.KernelIdeal.Col

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile -/

/-- The tile's SparseCore. -/
abbrev cV (L : grid0.Coords) : Fin τ.nSC := (L 0).castLE hcore0
/-- The tile's number on its SparseCore. -/
abbrev jV (L : grid0.Coords) : Fin τ.nSub := (L 1).castLE hsub0
/-- The tile's thread. -/
abbrev thr (d : Dev nD) (L : grid0.Coords) : Thread nD τ := V d (cV L) (jV L)

/-- A program of the tile. -/
abbrev TProg (F : FTy → Type) (L : grid0.Coords) (α : Type) : Type 1 := Prog (TpuEff nD τ sig (Elt F) Λ₀ (.scVector (cV L) (jV L))) α

/-- What must be held for the tile to run a program and end with `Q`. -/
abbrev run {α : Type} (d : Dev nD) (L : grid0.Coords) (p : TProg F L α) (Q : α → sProp 𝕄) : sProp 𝕄 :=
  wp frame (wpE (defs₀ (F := F)) 𝒱₀ (thr d L) none) Set.univ p Q

section Generic

variable {d : Dev nD} {L : grid0.Coords} {α β : Type}

/-- A program in front of another: run the first, then the second on what it gave. -/
theorem step_bind {P : sProp 𝕄} {p : TProg F L α} {k : α → TProg F L β} {Q : β → sProp 𝕄} (h : P ⊢ run d L p fun a => run d L (k a) Q) :
    P ⊢ run d L (p >>= k) Q := by
  unfold run
  rw [wp_bind]
  exact h

/-- A program that only returns a value. -/
theorem step_pure {P : sProp 𝕄} {a : α} {Q : α → sProp 𝕄} (h : P ⊢ Q a) : P ⊢ run d L (pure a) Q := by
  unfold run
  rw [wp_pure]
  exact h.trans BI.fupd_intro

/-- A check that holds. -/
theorem step_assume {P : sProp 𝕄} {c : Prop} {dc : Decidable c} {k : PLift c → TProg F L β} {Q : β → sProp 𝕄} (hc : c)
    (h : ∀ h : c, P ⊢ run d L (k ⟨h⟩) Q) : P ⊢ run d L (Prog.lift (TpuEff.assume c dc) >>= k) Q :=
  (h hc).trans (wp_assume 𝒱₀ (thr d L) none Set.univ hc)

end Generic

/-! ## Copies into the ring -/

section Trip

variable (d : Dev nD) (L : grid0.Coords)
variable (W : ℕ → BitVec 32) (hW : ∀ j, (W j).toNat < 1000000)
variable (fT : S16x1000000.Idx → Elt F .f32) (f0 : S32x16x16.Idx → Elt F .f32) (q : PosShare TreeShare)

/-- Slot `s` of the ring, held whole at contents `f`. -/
abbrev slotPts (s : Fin 32) (f : S32x16x16.Idx → Elt F .f32) : sProp 𝕄 :=
  (slotM s).view.loc (thr d L) ↦[(slotM s).view.set]{fullShare} f

/-- The eight columns of the table that hold `W s`, held at the share of copy `s`. -/
abbrev colsPts (s : Fin 32) : sProp 𝕄 :=
  (colsM (hW s.val)).view.loc (thr d L) ↦[(colsM (hW s.val)).view.set]{piece 5 q s.val} fT

/-- What copy `s` brings: slot `s` of the landed ring, and the columns of the table back. -/
abbrev brought (s : Fin 32) : sProp 𝕄 := iprop(slotPts d L s (landed W fT f0) ∗ colsPts d L W hW fT q s)

/-- The units one copy puts on the semaphore. -/
abbrev units : ℕ := (slotM 0).view.dmaCredit

/-- A copy puts at least one unit on the semaphore. -/
theorem units_pos : 0 < units := by decide

/-- The first `j` of the thirty-two copies started; the slots and columns of the rest in hand. -/
def Issuing (j : ℕ) : sProp 𝕄 :=
  iprop(Transfers.Batch countersEmb (thr d L) (.dma cc0_scratch3.sem) (default : HIx 1) units (brought d L W hW fT f0 q) j 0
    ∗ bigSep (Transfers.pending j) fun s : Fin 32 => iprop(slotPts d L s f0 ∗ colsPts d L W hW fT q s))

variable {d L W hW fT f0 q} {α β : Type}

/-- Starting copy `j`. -/
theorem step_issue {R : sProp 𝕄} {j : ℕ} (hj : j < 32) {o : Fin 3 → ℕ} {ho : ∀ a, o a + S1x16x8.size a ≤ S32x16x16.size a}
    {off : Fin 2 → ℕ} {hoff : ∀ a, off a + S16x8.size a ≤ S16x1000000.size a}
    {hs : (colsAt off hoff).view.WordExact} {hd : (slotAt o ho).view.WordExact}
    {ht : DmaTarget.Typed (nD := nD) (τ := τ) (p := .scVector (cV L) (jV L)) .hbm (.dma cc0_scratch3.sem) (.here (slotAt o ho))}
    {k : PUnit → TProg F L β} {Q : β → sProp 𝕄} (eo : o = ![j, 0, 0]) (ef : off = ![0, (W j).toNat / 8 * 8])
    (h : iprop(Issuing d L W hW fT f0 q (j + 1) ∗ R) ⊢ run d L (k ⟨⟩) Q) :
    iprop(Issuing d L W hW fT f0 q j ∗ R)
      ⊢ run d L (Prog.lift (.enqueueDma (colsAt off hoff) (.here (slotAt o ho)) (.dma cc0_scratch3.sem) hs hd ht) >>= k) Q := by
  subst eo ef
  unfold Issuing
  rw [Transfers.bigSep_pending_step _ j hj]
  iintro ⟨⟨HB, ⟨Hs, Hc⟩, Hp⟩, HR⟩
  have hD : iprop(((slotM ⟨j, hj⟩).view.loc (thr d L) ↦[(slotM ⟨j, hj⟩).view.set]{fullShare}
        ((slotM ⟨j, hj⟩).view.write (Elt F) f0 (ReadAs.same.apply ((colsM (hW j)).view.read (Elt F) fT)) Finset.univ))
      ∗ colsPts d L W hW fT q ⟨j, hj⟩) ⊢ brought d L W hW fT f0 q ⟨j, hj⟩ :=
    sep_mono (Entails.of_eq (pointsTo_congr fun i hi => write_landed W fT f0 f0 ⟨j, hj⟩ (hW j) i hi)) .rfl
  iapply (Transfers.wp_dmaBatch countersEmb 𝒱₀ (thr d L) none (default : HIx 1) units (rfl) (Finset.Subset.refl _) hj (Nat.zero_le _) hD) $$ [HB Hs Hc]
  · isplitl [Hc]; · iexact Hc
    isplitl [Hs]; · iexact Hs
    iexact HB
  iintro HB
  iapply h
  unfold Issuing
  isplitr [HR]
  · isplitl [HB]; · iexact HB
    iexact Hp
  iexact HR

/-! ## What the copies leave aside -/

variable (d L W hW fT f0 q)

/-- The ring outside the slots, at contents `f`. -/
abbrev ringRest (f : S32x16x16.Idx → Elt F .f32) : sProp 𝕄 :=
  ringM.view.loc (thr d L) ↦[Finset.univ \ Finset.univ.biUnion fun s : Fin 32 => (slotM s).view.set]{fullShare} f

/-- The table outside the columns of copy `s`, at the share of copy `s`. -/
abbrev tabRest (s : Fin 32) : sProp 𝕄 :=
  tabM.view.loc (thr d L) ↦[Finset.univ \ (colsM (hW s.val)).view.set]{piece 5 q s.val} fT

/-- What the copies leave aside: the ring outside the slots, and of each share of the table what its copy does not read. -/
def Aside : sProp 𝕄 := iprop(ringRest d L f0 ∗ bigSep Finset.univ fun s : Fin 32 => tabRest d L W hW fT q s)

/-- The ring is its slots and what is outside them. -/
theorem ring_split (f : S32x16x16.Idx → Elt F .f32) :
    (ringM.view.loc (thr d L) ↦{fullShare} f : sProp 𝕄)
      = iprop((bigSep Finset.univ fun s : Fin 32 => slotPts d L s f) ∗ ringRest d L f) := by
  have h := pointsTo_split_subset (ℓ := ringM.view.loc (thr d L)) (q := fullShare) (f := f) (Val := Elt F) (Ix := HIx 1) (Name := ℕ) (U := UU) (Lvl := ℕ)
    (Finset.subset_univ (Finset.univ.biUnion fun s : Fin 32 => (slotM s).view.set))
  rw [BI.Entails.antisymm h.1 h.2, pointsTo_biUnion Finset.univ (ℓ := ringM.view.loc (thr d L)) (fun s : Fin 32 => (slotM s).view.set) slots_disjoint]

/-- The table, at a share, is the columns each copy reads and what it does not, at the copies' shares. -/
theorem tab_split :
    (tabM.view.loc (thr d L) ↦{q} fT : sProp 𝕄)
      = iprop((bigSep Finset.univ fun s : Fin 32 => colsPts d L W hW fT q s) ∗ bigSep Finset.univ fun s : Fin 32 => tabRest d L W hW fT q s) := by
  rw [pointsTo_pieces (ℓ := tabM.view.loc (thr d L)) Finset.univ fT 5 q, ← bigSep_sep']
  refine bigSep_congr fun s _ => ?_
  have h := pointsTo_split_subset (ℓ := tabM.view.loc (thr d L)) (q := piece 5 q s.val) (f := fT) (Val := Elt F) (Ix := HIx 1) (Name := ℕ) (U := UU) (Lvl := ℕ)
    (Finset.subset_univ (colsM (hW s.val)).view.set)
  exact BI.Entails.antisymm h.1 h.2

/-- Before the first copy: the ring, the table and the semaphore at zero are the copies to start and what they leave aside. -/
theorem issuing_zero :
    iprop((ringM.view.loc (thr d L) ↦{fullShare} f0) ∗ (tabM.view.loc (thr d L) ↦{q} fT) ∗ semVal (thr d L, .dma cc0_scratch3.sem) 0)
      ⊢ (|={Set.univ}=> iprop(Issuing d L W hW fT f0 q 0 ∗ Aside d L W hW fT f0 q) : sProp 𝕄) := by
  rw [ring_split, tab_split d L W hW fT q]
  iintro ⟨⟨Hs, Hr⟩, ⟨Hc, Ht⟩, Hv⟩
  imod (Transfers.batch_alloc' countersEmb (thr d L) (default : HIx 1) units (brought d L W hW fT f0 q) (E := Set.univ)) $$ Hv with HB
  imodintro
  unfold Issuing Aside
  isplitr [Hr Ht]
  · isplitl [HB]; · iexact HB
    rw [← Transfers.bigSep_pending_zero, bigSep_sep' Finset.univ (fun s : Fin 32 => slotPts d L s f0) (fun s => colsPts d L W hW fT q s)]
    isplitl [Hs]; · iexact Hs
    iexact Hc
  isplitl [Hr]; · iexact Hr
  iexact Ht

/-! ## The waits -/

variable (O : CellTallies nD τ sig (HIx 1)) (W₀ : Waits sig (HIx 1))

/-- What the tile owes, with the evidence its waits need. -/
def Owed : sProp 𝕄 :=
  iprop(Transfers.MayWaits (thr d L) (default : HIx 1) O ∗ ∃ W', ⌜∀ p ∈ W', p ∈ W₀ ∨ p.2 = none⌝ ∗ owes (thr d L) O W')

/-- All thirty-two copies started, and `u` waited for. -/
def Draining (u : ℕ) : sProp 𝕄 :=
  iprop(Transfers.Batch countersEmb (thr d L) (.dma cc0_scratch3.sem) (default : HIx 1) units (brought d L W hW fT f0 q) 32 (u * units)
    ∗ Owed d L O W₀)

/-- Once the last copy is started the waits can begin. -/
theorem draining_zero : iprop(Issuing d L W hW fT f0 q 32 ∗ Owed d L O W₀) ⊢ Draining d L W hW fT f0 q O W₀ 0 := by
  unfold Issuing Draining
  rw [Nat.zero_mul]
  iintro ⟨⟨HB, -⟩, HO⟩
  isplitl [HB]; · iexact HB
  iexact HO

variable {d L W hW fT f0 q O W₀}

/-- A wait recorded keeps the record within what it may hold. -/
theorem recorded {W' : Waits sig (HIx 1)} (hW' : ∀ p ∈ W', p ∈ W₀ ∨ p.2 = none) (sm : SemLoc sig) :
    ∀ p ∈ insert (sm, (default : HIx 1)) W', p ∈ W₀ ∨ p.2 = none := by
  intro p hp
  rcases Finset.mem_insert.1 hp with rfl | hp
  · exact Or.inr rfl
  · exact hW' p hp

/-- A wait that is not the last. -/
theorem step_wait {R : sProp 𝕄} {u : ℕ} (hu : u < 31) {o : Fin 3 → ℕ} {ho : ∀ a, o a + S1x16x8.size a ≤ S32x16x16.size a}
    {off : Fin 2 → ℕ} {hoff : ∀ a, off a + S16x8.size a ≤ S16x1000000.size a}
    {hs : (colsAt off hoff).view.WordExact} {hd : (slotAt o ho).view.WordExact}
    {k : PUnit → TProg F L β} {Q : β → sProp 𝕄}
    (h : iprop(Draining d L W hW fT f0 q O W₀ (u + 1) ∗ R) ⊢ run d L (k ⟨⟩) Q) :
    iprop(Draining d L W hW fT f0 q O W₀ u ∗ R)
      ⊢ run d L (Prog.lift (.waitDma2 cc0_scratch3.sem (colsAt off hoff) (slotAt o ho) hs hd) >>= k) Q := by
  have hlt : u * units + units < units * 32 := by
    have := units_pos
    rw [← Nat.succ_mul, Nat.mul_comm]
    exact Nat.mul_lt_mul_of_pos_left (show u + 1 < 32 by omega) this
  unfold Draining Owed
  iintro ⟨⟨HB, ⟨#Hmw, ⟨%W', %hW', HO⟩⟩⟩, HR⟩
  iapply (Transfers.wp_waitBatchO countersEmb 𝒱₀ (thr d L) none (default : HIx 1) (dstw := slotAt o ho) (N := units) rfl hlt) $$ [HB HO]
  · isplitl [HB]; · iexact HB
    isplitl [HO]; · iexact HO
    iapply (Transfers.MayWaits.elim (SemLoc.dma cc0_scratch3.sem)) $$ Hmw
  iintro ⟨HB, HO⟩
  iapply h
  unfold Draining Owed
  rw [Nat.succ_mul]
  isplitr [HR]
  · isplitl [HB]; · iexact HB
    isplitr; · iexact Hmw
    iexists _
    isplitr; swap; · iexact HO
    ipureintro
    exact recorded hW' _
  iexact HR

/-- The last wait: the landed ring, the table and the semaphore at zero. -/
theorem step_last {R : sProp 𝕄} {o : Fin 3 → ℕ} {ho : ∀ a, o a + S1x16x8.size a ≤ S32x16x16.size a}
    {off : Fin 2 → ℕ} {hoff : ∀ a, off a + S16x8.size a ≤ S16x1000000.size a}
    {hs : (colsAt off hoff).view.WordExact} {hd : (slotAt o ho).view.WordExact}
    {k : PUnit → TProg F L β} {Q : β → sProp 𝕄}
    (h : iprop((ringM.view.loc (thr d L) ↦{fullShare} landed W fT f0)
        ∗ ((tabM.view.loc (thr d L) ↦{q} fT) ∗ semVal (thr d L, .dma cc0_scratch3.sem) 0 ∗ Owed d L O W₀) ∗ R) ⊢ run d L (k ⟨⟩) Q) :
    iprop(Draining d L W hW fT f0 q O W₀ 31 ∗ Aside d L W hW fT f0 q ∗ R)
      ⊢ run d L (Prog.lift (.waitDma2 cc0_scratch3.sem (colsAt off hoff) (slotAt o ho) hs hd) >>= k) Q := by
  have hlt : 31 * units + units = units * 32 := by rw [← Nat.succ_mul, Nat.mul_comm]
  have hrest : (ringRest d L f0 : sProp 𝕄) = ringRest d L (landed W fT f0) := by
    refine pointsTo_congr fun i hi => (landed_rest W fT f0 i fun s hs => ?_).symm
    exact (Finset.mem_sdiff.1 hi).2 (Finset.mem_biUnion.2 ⟨s, Finset.mem_univ s, hs⟩)
  unfold Draining Owed Aside
  rw [hrest]
  iintro ⟨⟨HB, ⟨#Hmw, ⟨%W', %hW', HO⟩⟩⟩, ⟨Hr, Ht⟩, HR⟩
  iapply (Transfers.wp_waitBatchLastO countersEmb 𝒱₀ (thr d L) none (default : HIx 1) (dstw := slotAt o ho) (N := units) rfl units_pos hlt) $$ [HB HO]
  · isplitl [HB]; · iexact HB
    isplitl [HO]; · iexact HO
    iapply (Transfers.MayWaits.elim (SemLoc.dma cc0_scratch3.sem)) $$ Hmw
  rw [bigSep_sep' Finset.univ (fun s : Fin 32 => slotPts d L s (landed W fT f0)) (fun s => colsPts d L W hW fT q s)]
  iintro ⟨⟨Hs, Hc⟩, Hv, HO⟩
  iapply h
  isplitl [Hs Hr]
  · rw [ring_split d L (landed W fT f0)]
    isplitl [Hs]; · iexact Hs
    iexact Hr
  isplitr [HR]
  · isplitl [Hc Ht]
    · rw [tab_split d L W hW fT q]
      isplitl [Hc]; · iexact Hc
      iexact Ht
    isplitl [Hv]; · iexact Hv
    unfold Owed
    isplitr; · iexact Hmw
    iexists _
    isplitr; swap; · iexact HO
    ipureintro
    exact recorded hW' _
  iexact HR

/-! ## Loads of the list, columns out of the ring, and their stores -/

variable (d L)

/-- The block with its first `n` columns the columns of the table that the list names. -/
def Block (fI : S512.Idx → BitVec 32) (fT : S16x1000000.Idx → Elt F .f32) (n : ℕ) : sProp 𝕄 :=
  iprop(∃ f : S16x512.Idx → Elt F .f32, ⌜∀ i, (i 1).val < n → f i = fT (cell (i 0) (fI (pos (i 1).val)).toNat)⌝
    ∗ (blkM.view.loc (thr d L) ↦{fullShare} f))

variable {d L}

/-- Sixteen words of the list, from position `b`. -/
theorem step_load {R : sProp 𝕄} {fI : S512.Idx → BitVec 32} {b : ℕ} {off : Fin 1 → ℕ} {hoff : ∀ a, off a + S16.size a ≤ S512.size a}
    {hl : lstM.view.LoadsAt (Rect.unit (s := S512) off S16.size hoff).toLoadRect} (eo : off = ![b])
    {k : Vec F S16 .i32 → TProg F L β} {Q : β → sProp 𝕄}
    (h : ∀ v : Vec F S16 .i32, (∀ l (hl : l < 16), v (lane ⟨l, hl⟩) = fI (pos (b + l))) →
      iprop((lstM.view.loc (thr d L) ↦{fullShare} fI) ∗ R) ⊢ run d L (k v) Q) :
    iprop((lstM.view.loc (thr d L) ↦{fullShare} fI) ∗ R)
      ⊢ run d L (Prog.lift (.load lstM (Rect.unit (s := S512) off S16.size hoff).toLoadRect hl) >>= k) Q := by
  subst eo
  iintro ⟨HI, HR⟩
  iapply (wp_load 𝒱₀ (thr d L) none Set.univ (m := lstM) (S := Finset.univ) (q := fullShare) (f := fI) (Finset.subset_univ _)) $$ HI
  iintro HI
  iapply (h _ fun l hl => ?_)
  rotate_left
  · isplitl [HI]; · iexact HI
    iexact HR
  · have hb : b + 16 ≤ 512 := hoff 0
    refine congrArg fI (funext fun a => ?_)
    match a with
    | ⟨0, _⟩ => exact Fin.ext (show b + 1 * l = (b + l) % 512 by omega)

/-- A column out of slot `s` of the landed ring. -/
theorem step_gather {R : sProp 𝕄} {v3 : IVec S16 32} (hv3 : ∀ x, v3 x = BitVec.ofNat 32 (x 0).val) {s : ℕ} (hs : s < 32)
    {v : BitVec 32} (hv : v = W s)
    {hi : ∀ a x, ((![broadcast S16 (BitVec.ofNat 32 s), v3, broadcast S16 (Scalar.andi v 7#32)] : Fin 3 → IVec S16 32) a x).toNat < S32x16x16.size a}
    {hl : ringM.view.Loads} {k : Vec F S16 .f32 → TProg F L β} {Q : β → sProp 𝕄}
    (h : iprop((ringM.view.loc (thr d L) ↦{fullShare} landed W fT f0) ∗ R) ⊢ run d L (k (column fT (W s))) Q) :
    iprop((ringM.view.loc (thr d L) ↦{fullShare} landed W fT f0) ∗ R)
      ⊢ run d L (SparseCore.vectorLoadIdx ringM ![broadcast S16 (BitVec.ofNat 32 s), v3, broadcast S16 (Scalar.andi v 7#32)] hi hl >>= k) Q := by
  iintro ⟨HG, HR⟩
  iapply (SparseCore.wp_vectorLoadIdx 𝒱₀ (thr d L) none Set.univ (base := ringM) (S := Finset.univ) (q := fullShare) (f := landed W fT f0)
    (Finset.subset_univ _)) $$ HG
  iintro HG
  have e : (ringM.access (.whole S32x16x16)).read (Elt F) (landed W fT f0) = landed W fT f0 := Memref.read_access_whole (Elt F) cc0_scratch1 _
  rw [e, loadIdx_landed hv3 W fT f0 s hs hv]
  iapply h
  isplitl [HG]; · iexact HG
  iexact HR

/-- A column of the table stored at column `n` of the block. -/
theorem step_scatter {G R : sProp 𝕄} {v3 : IVec S16 32} (hv3 : ∀ x, v3 x = BitVec.ofNat 32 (x 0).val) {fI : S512.Idx → BitVec 32} {n : ℕ}
    {w : BitVec 32} (hw : w.toNat = n) {x : BitVec 32} (hx : x = fI (pos n))
    {hi : ∀ a x, ((![v3, broadcast S16 w] : Fin 2 → IVec S16 32) a x).toNat < S16x512.size a}
    {hl : (blkM.access (.whole S16x512)).Stores Finset.univ} {k : PUnit → TProg F L β} {Q : β → sProp 𝕄}
    (h : iprop(G ∗ Block d L fI fT (n + 1) ∗ R) ⊢ run d L (k ⟨⟩) Q) :
    iprop(G ∗ Block d L fI fT n ∗ R)
      ⊢ run d L (SparseCore.vectorStoreIdx blkM ![v3, broadcast S16 w] (column fT x) (fun _ => 1#1) false hi hl >>= k) Q := by
  subst hx
  have e : (blkM.access (.whole S16x512)).set = Finset.univ := Memref.set_access_whole cc0_scratch2
  have er : ∀ f, (blkM.access (.whole S16x512)).read (Elt F) f = f := Memref.read_access_whole (Elt F) cc0_scratch2
  have ew : ∀ f w, (blkM.access (.whole S16x512)).write (Elt F) f w Finset.univ = w := Memref.write_access_whole_univ (Elt F) cc0_scratch2
  unfold Block
  iintro ⟨HG, ⟨%f, %hf, HB⟩, HR⟩
  iapply (SparseCore.wp_vectorStoreIdx 𝒱₀ (thr d L) none Set.univ (base := blkM) (f := f)) $$ [HB]
  · rw [e]
    iexact HB
  rw [e, er, ew]
  iintro HB
  iapply h
  unfold Block
  isplitl [HG]; · iexact HG
  isplitr [HR]
  · iexists _
    isplitr; swap; · iexact HB
    ipureintro
    intro i hi'
    rw [storeIdx_apply hv3 hw]
    split
    · next e => rw [e]; rfl
    · next e => exact hf i (by omega)
  iexact HR

end Trip

end Cert.KernelIdeal.Col

end
-- ==== Proof.Trip.lean ====
/-
  One trip of a tile's loop: thirty-two copies started, waited for, and their columns put in the block.
-/
module

public import proofs.«01_k».proof.Proof.Steps

@[expose] public section

noncomputable section

namespace Cert.KernelIdeal.Col

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (fI : S512.Idx → BitVec 32) (fT : S16x1000000.Idx → Elt F .f32) (q : PosShare TreeShare)
variable (O : CellTallies nD τ sig (HIx 1)) (W₀ : Waits sig (HIx 1))

/-- What the tile holds before trip `t`: its list, the ring, its share of the table, the block with the columns of the
    trips before, the semaphore at zero and what it owes. -/
def Inv (t : ℕ) : sProp 𝕄 :=
  iprop((lstM.view.loc (thr d L) ↦{fullShare} fI) ∗ (∃ f0, ringM.view.loc (thr d L) ↦{fullShare} f0)
    ∗ (tabM.view.loc (thr d L) ↦{q} fT) ∗ Block d L fI fT (32 * t) ∗ semVal (thr d L, .dma cc0_scratch3.sem) 0 ∗ Owed d L O W₀)

variable {d L fI fT q O W₀}

/-- The word the kernel takes from lane `l` of a vector holding the words from `b` on. -/
theorem word {v3 : IVec S16 32} (hv3 : ∀ x, v3 x = BitVec.ofNat 32 (x 0).val) {W : ℕ → BitVec 32} {v : IVec S16 32} {b : ℕ}
    (hv : ∀ l (hl : l < 16), v (lane ⟨l, hl⟩) = W (b + l)) (l : ℕ) (hl : l < 16) {h : ∀ a, (![15] : Fin 1 → Nat) a < S16.size a} :
    extractAt ![15] (scan .sum (select (cmpi .eq v3 (broadcast S16 (BitVec.ofNat 32 l))) v (broadcast S16 0#32))) h = W (b + l) :=
  (pick hv3 v l hl h).trans (hv l hl)

/-- The column of the block the kernel computes for slot `s` of trip `t`. -/
theorem col_iv (t : Fin k0_t1_loop.trips) (s : ℕ) (hs : s < 32) :
    (Scalar.addi (Scalar.muli (Scf.iv 0#32 1#32 t) 32#32) (BitVec.ofNat 32 s)).toNat = 32 * t.val + s := by
  have ht : t.val < 16 := t.isLt
  have e : Scf.iv 0#32 1#32 t = BitVec.ofNat 32 t.val := by
    show 0#32 + BitVec.ofNat 32 t.val * 1#32 = _
    rw [BitVec.mul_one, BitVec.zero_add]
  rw [e]
  exact col_toNat t.val s ht hs

/-- A program of the tile, given what an update in front of it gives. -/
theorem step_fupd {α : Type} {P P' : sProp 𝕄} {p : TProg F L α} {Q : α → sProp 𝕄} (h : P ⊢ (|={Set.univ}=> P' : sProp 𝕄))
    (h' : P' ⊢ run d L p Q) : P ⊢ run d L p Q :=
  (h.trans (BI.fupd_mono h')).trans (fupd_wp _ _ _ _ _)

/-- The loop's body on the tile's own buffers. -/
abbrev tripProg (F : FTy → Type) [FloatOps F] (L : grid0.Coords) (v3 : IVec S16 32) (t : Fin k0_t1_loop.trips) : TProg F L Unit :=
  k0_t1_body (F := F) L tabM (Memref.isWhole_whole _) idxM (Memref.isWhole_whole _) outM (Memref.isWhole_whole _)
    lstM (Memref.isWhole_whole _) ringM (Memref.isWhole_whole _) blkM (Memref.isWhole_whole _) cc0_scratch3 cc0_scoped0 cc0_scoped1 v3 t ()

/-- A gather that ends its part of the body, as one with a continuation. -/
theorem step_tail {P : sProp 𝕄} {idxs : Fin S32x16x16.rank → IVec S16 32}
    {hi : ∀ a x, (idxs a x).toNat < S32x16x16.size a} {hl : ringM.view.Loads} {Q : Vec F S16 .f32 → sProp 𝕄}
    (h : P ⊢ run d L (SparseCore.vectorLoadIdx ringM idxs hi hl >>= pure) Q) :
    P ⊢ run d L (SparseCore.vectorLoadIdx ringM idxs hi hl) Q := by
  rwa [bind_pure] at h

/-- From the loads to the copies. -/
theorem to_issuing {A B C : sProp 𝕄} : iprop(A ∗ B ∗ C) ⊢ iprop(B ∗ C ∗ A) := by
  iintro ⟨HA, HB, HC⟩
  isplitl [HB]; · iexact HB
  isplitl [HC]; · iexact HC
  iexact HA

/-- From the copies to the waits. -/
theorem to_draining {W : ℕ → BitVec 32} {hW : ∀ j, (W j).toNat < 1000000} {f0 : S32x16x16.Idx → Elt F .f32} {A B C : sProp 𝕄} :
    iprop(Issuing d L W hW fT f0 q 32 ∗ (A ∗ Owed d L O W₀ ∗ B) ∗ C) ⊢ iprop(Draining d L W hW fT f0 q O W₀ 0 ∗ A ∗ B ∗ C) := by
  iintro ⟨HI, ⟨HA, HO, HB⟩, HC⟩
  isplitl [HI HO]
  · iapply draining_zero
    isplitl [HI]; · iexact HI
    iexact HO
  isplitl [HA]; · iexact HA
  isplitl [HB]; · iexact HB
  iexact HC

/-- From the waits to the columns. -/
theorem to_moving {A B C D : sProp 𝕄} : iprop(A ∗ B ∗ C ∗ D) ⊢ iprop(A ∗ C ∗ B ∗ D) := by
  iintro ⟨HA, HB, HC, HD⟩
  isplitl [HA]; · iexact HA
  isplitl [HC]; · iexact HC
  isplitl [HB]; · iexact HB
  iexact HD

set_option maxHeartbeats 40000000 in
set_option maxRecDepth 10000 in
/-- One trip, from the copies about to start. -/
theorem trip_main (t : Fin k0_t1_loop.trips) {v3 : IVec S16 32} (hv3 : ∀ x, v3 x = BitVec.ofNat 32 (x 0).val)
    (f0 : S32x16x16.Idx → Elt F .f32) (W : ℕ → BitVec 32) (hW : ∀ j, (W j).toNat < 1000000) (hWd : ∀ s, W s = fI (pos (32 * t.val + s))) :
    iprop((lstM.view.loc (thr d L) ↦{fullShare} fI)
        ∗ Issuing d L W hW fT f0 q 0 ∗ Aside d L W hW fT f0 q ∗ Owed d L O W₀ ∗ Block d L fI fT (32 * t.val))
      ⊢ run d L (tripProg F L v3 t) fun _ => Inv d L fI fT q O W₀ (t.val + 1) := by
  have ht : t.val < 16 := t.isLt
  unfold tripProg k0_t1_body
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton]
  refine step_bind ?_
  refine step_load (b := 32 * t.val) (k0_off2_eq t 0) fun v8 hv8 => ?_
  refine step_load (b := 32 * t.val + 16) (k0_off2_eq t 1) fun v12 hv12 => ?_
  replace hv8 : ∀ l (hl : l < 16), v8 (lane ⟨l, hl⟩) = W (0 + l) := fun l hl => (hv8 l hl).trans (by rw [hWd, Nat.zero_add])
  replace hv12 : ∀ l (hl : l < 16), v12 (lane ⟨l, hl⟩) = W (16 + l) := fun l hl => (hv12 l hl).trans (by rw [hWd, Nat.add_assoc])
  refine to_issuing.trans ?_
  iterate 31
    refine step_assume (chk_word (word hv3 (by assumption) _ (by decide)) (hW _)) fun _ => ?_
    try (refine step_pure ?_; refine step_bind ?_)
    refine step_issue (by decide) rfl (base_off (word hv3 (by assumption) _ (by decide))) ?_
    try (refine step_pure ?_; refine step_bind ?_)
  refine step_assume (chk_word_one (word hv3 (by assumption) _ (by decide)) (hW _)) fun _ => ?_
  refine step_pure ?_
  refine step_bind ?_
  refine step_issue (by decide) rfl (base_off (word hv3 (by assumption) _ (by decide))) ?_
  refine to_draining.trans ?_
  iterate 31
    refine step_wait (by decide) ?_
    try (refine step_pure ?_; refine step_bind ?_)
  refine step_last ?_
  refine to_moving.trans ?_
  iterate 32
    refine step_assume (chk_gather hv3 _ (by decide) _) fun _ => ?_
    try (refine step_pure ?_; refine step_bind ?_)
    try with_reducible refine step_tail ?_
    refine step_gather hv3 ?_ ?_ ?_
    · decide
    · exact word hv3 (by assumption) _ (by decide)
    try (refine step_pure ?_; refine step_bind ?_)
    refine step_assume (chk_scatter hv3 (col_iv t _ (by decide)) (by omega)) fun _ => ?_
    try (refine step_pure ?_; refine step_bind ?_)
    refine step_scatter hv3 ?_ ?_ ?_
    · exact col_iv t _ (by decide)
    · exact hWd _
    try (refine step_pure ?_; refine step_bind ?_)
  refine step_pure ?_
  refine step_pure ?_
  have e : 32 * (t.val + 1) = 32 * t.val + 32 := by omega
  unfold Inv
  rw [e]
  iintro ⟨HG, HB, ⟨HT, HS, HO⟩, HL⟩
  isplitl [HL]; · iexact HL
  isplitl [HG]; · iexists _; iexact HG
  isplitl [HT]; · iexact HT
  isplitl [HB]; · iexact HB
  isplitl [HS]; · iexact HS
  iexact HO

end Cert.KernelIdeal.Col

end
-- ==== Proof.Tile.lean ====
/-
  The whole task of one tile: its row of indices fetched, the trips of its loop, its block of the result written out.
-/
module

public import proofs.«01_k».proof.Proof.Trip

@[expose] public section

noncomputable section

namespace Cert.KernelIdeal.Col

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Loop

variable {d : Dev nD} {L : grid0.Coords} {fI : S512.Idx → BitVec 32} {fT : S16x1000000.Idx → Elt F .f32} {q : PosShare TreeShare}
variable {O : CellTallies nD τ sig (HIx 1)} {W₀ : Waits sig (HIx 1)}

/-- The lanes' own numbers, as the kernel makes them. -/
theorem iota_lane (h : S16.Iotas .scVector 32 [0]) (x : S16.Idx) : iota .scVector S16 32 [0] h x = BitVec.ofNat 32 (x 0).val := by
  show BitVec.ofNat 32 (0 * S16.size 0 + (x 0).val) = _
  rw [Nat.zero_mul, Nat.zero_add]

/-- One trip keeps what the tile holds, with thirty-two more columns in the block. -/
theorem trip (t : Fin k0_t1_loop.trips) {v3 : IVec S16 32} (hv3 : ∀ x, v3 x = BitVec.ofNat 32 (x 0).val) (hI : ∀ x, (fI x).toNat < 1000000) :
    Inv d L fI fT q O W₀ t.val ⊢ run d L (tripProg F L v3 t) fun _ => Inv d L fI fT q O W₀ (t.val + 1) := by
  have hW : ∀ s, (fI (pos (32 * t.val + s))).toNat < 1000000 := fun s => hI _
  refine BI.Entails.trans (show Inv d L fI fT q O W₀ t.val ⊢ iprop(∃ f0, (lstM.view.loc (thr d L) ↦{fullShare} fI)
      ∗ (ringM.view.loc (thr d L) ↦{fullShare} f0) ∗ (tabM.view.loc (thr d L) ↦{q} fT) ∗ Block d L fI fT (32 * t.val)
      ∗ semVal (thr d L, .dma cc0_scratch3.sem) 0 ∗ Owed d L O W₀) from ?_) ?_
  · unfold Inv
    iintro ⟨HL, ⟨%f0, HG⟩, HT, HB, HS, HO⟩
    iexists f0
    isplitl [HL]; · iexact HL
    isplitl [HG]; · iexact HG
    isplitl [HT]; · iexact HT
    isplitl [HB]; · iexact HB
    isplitl [HS]; · iexact HS
    iexact HO
  refine exists_elim fun f0 => step_fupd ?_ (trip_main t hv3 f0 (fun s => fI (pos (32 * t.val + s))) hW fun _ => rfl)
  iintro ⟨HL, HG, HT, HB, HS, HO⟩
  imod (issuing_zero d L (fun s => fI (pos (32 * t.val + s))) hW fT f0 q) $$ [HG HT HS] with ⟨HI, HA⟩
  · isplitl [HG]; · iexact HG
    isplitl [HT]; · iexact HT
    iexact HS
  imodintro
  isplitl [HL]; · iexact HL
  isplitl [HI]; · iexact HI
  isplitl [HA]; · iexact HA
  isplitl [HO]; · iexact HO
  iexact HB

end Loop

/-! ## The parts of the arrays a tile has -/

/-- Row `r` and place `j` of the array of indices, each taken modulo its extent. -/
def at2 (r j : ℕ) : S32x512.Idx
  | ⟨0, _⟩ => ⟨r % 32, Nat.mod_lt _ (by decide)⟩
  | ⟨1, _⟩ => ⟨j % 512, Nat.mod_lt _ (by decide)⟩

/-- What the call leaves in the transposed result: column `n` is the table's column named by the `n`-th index. -/
def gathered (fX : S32x512.Idx → BitVec 32) (fT : S16x1000000.Idx → Elt F .f32) : S16x16384.Idx → Elt F .f32 :=
  fun y => fT (cell (y 0) (fX (at2 ((y 1).val / 512) ((y 1).val % 512))).toNat)

variable (d : Dev nD) (L : grid0.Coords)

/-- The tile's number among the thirty-two. -/
abbrev tileNo : ℕ := 2 * (L 1).val + (L 0).val

/-- The tile's row of the indices, as the kernel addresses it. -/
abbrev rowM : Memref sig .scVector .hbm S512 .i32 :=
  (idxM.slice (Rect.unit (s := S32x512) (k0_off1 L) S1x512.size (k0_off1_inb L)) (fun _ => rfl)).squeeze S512 squeezes_S1x512_S512

/-- The tile's columns of the transposed result, as the kernel addresses them. -/
abbrev partM : Memref sig .scVector .hbm S16x512 .f32 :=
  outM.slice (Rect.unit (s := S16x16384) (k0_off66 L) S16x512.size (k0_off66_inb L)) (fun _ => rfl)

/-- The tile's number is below thirty-two. -/
theorem tileNo_lt : tileNo L < 32 := by
  have h0 : (L 0).val < 2 := (L 0).isLt
  have h1 : (L 1).val < 16 := (L 1).isLt
  unfold tileNo; omega

/-- Place `j` of the tile's row is place `j` of that row of the array. -/
theorem rowM_emb (x : S512.Idx) : (rowM L).view.emb x = at2 (tileNo L) (x 0).val := by
  have h0 : (L 0).val < 2 := (L 0).isLt
  have h1 : (L 1).val < 16 := (L 1).isLt
  have hx : (x 0).val < 512 := (x 0).isLt
  have h : Shape.reshapeEquiv (s := S1x512) (s' := S512) squeezes_S1x512_S512.numel_eq x = Fin.cons ⟨0, Nat.one_pos⟩ x :=
    Shape.reshapeEquiv_cons_one (d := ![512]) _ x
  have e : (rowM L).view.emb x = (Rect.unit (s := S32x512) (k0_off1 L) S1x512.size (k0_off1_inb L)).emb
      (Shape.reshapeEquiv (s := S1x512) (s' := S512) squeezes_S1x512_S512.numel_eq x) := rfl
  have eo := k0_off1_eq L
  rw [e, h]
  funext a
  match a with
  | ⟨0, _⟩ =>
    have e0 : k0_off1 L 0 = 2 * (L 1).val + (L 0).val := by rw [eo]; rfl
    exact Fin.ext (show k0_off1 L 0 + 1 * 0 = tileNo L % 32 by rw [e0]; unfold tileNo; omega)
  | ⟨1, _⟩ =>
    have e1 : k0_off1 L 1 = 0 := by rw [eo]; rfl
    exact Fin.ext (show k0_off1 L 1 + 1 * (x 0).val = (x 0).val % 512 by rw [e1]; omega)

/-- Place `x` of the tile's columns is that place of the result, the columns of the tiles before it further on. -/
theorem partM_emb (x : S16x512.Idx) :
    ((partM L).view.emb x 0).val = (x 0).val ∧ ((partM L).view.emb x 1).val = 512 * tileNo L + (x 1).val := by
  have e0 : k0_off66 L 0 = 0 := by rw [k0_off66_eq L]; rfl
  have e1 : k0_off66 L 1 = 1024 * (L 1).val + 512 * (L 0).val := by rw [k0_off66_eq L]; rfl
  refine ⟨?_, ?_⟩
  · exact (show k0_off66 L 0 + 1 * (x 0).val = (x 0).val by rw [e0]; omega)
  · exact (show k0_off66 L 1 + 1 * (x 1).val = 512 * tileNo L + (x 1).val by rw [e1]; unfold tileNo; omega)

/-- The list of the tile. -/
def list (fX : S32x512.Idx → BitVec 32) : S512.Idx → BitVec 32 := fun x => fX (at2 (tileNo L) (x 0).val)

/-- The tile's row read is its list. -/
theorem rowM_read (fX : S32x512.Idx → BitVec 32) : (rowM L).view.read (Elt F) fX = list L fX :=
  funext fun x => ((View.read_apply _ _).trans (cast_eq _ _)).trans (congrArg fX (rowM_emb L x))

/-- A block with all its columns, written to the tile's columns of the result, is what the call is to leave there. -/
theorem partM_write (fX : S32x512.Idx → BitVec 32) (fT : S16x1000000.Idx → Elt F .f32) (g : S16x16384.Idx → Elt F .f32)
    (f : S16x512.Idx → Elt F .f32) (hf : ∀ i : S16x512.Idx, (i 1).val < 512 → f i = fT (cell (i 0) (list L fX (pos (i 1).val)).toNat))
    (y : S16x16384.Idx) (hy : y ∈ (partM L).view.set) :
    (partM L).view.writes (Elt F) g [⟨Rect.whole S16x512, f⟩] y = gathered fX fT y := by
  obtain ⟨x, -, rfl⟩ := Finset.mem_map.1 hy
  obtain ⟨e0, e1⟩ := partM_emb L x
  have hx : (x 1).val < 512 := (x 1).isLt
  have hx' : (Rect.whole S16x512).emb x = x := Rect.emb_whole_apply S16x512 x
  have hw : (partM L).view.writes (Elt F) g [⟨Rect.whole S16x512, f⟩] ((partM L).view.emb x) = f x :=
    ((View.read_apply _ _).trans (cast_eq _ _)).symm.trans
      ((congrArg _ hx'.symm).trans (View.read_writes_cons_emb (partM L).view g (Rect.whole S16x512) f [] x))
  rw [hw, hf x hx]
  unfold gathered
  have ea : list L fX (pos (x 1).val) = fX (at2 (((partM L).view.emb x 1).val / 512) (((partM L).view.emb x 1).val % 512)) := by
    have ej : (pos (x 1).val 0).val = (x 1).val := Nat.mod_eq_of_lt hx
    unfold list
    rw [e1, ej, show (512 * tileNo L + (x 1).val) / 512 = tileNo L by omega, show (512 * tileNo L + (x 1).val) % 512 = (x 1).val by omega]
  rw [← ea]
  exact congrArg fT (cell_ext e0.symm rfl)

/-! ## The tile's own semaphores and buffers -/

/-- A semaphore of the tile. -/
abbrev own (s : SemLoc sig) : GSem nD τ sig := (thr d L, s)

/-- The tile's three semaphores among its own: they, at zero, and the rest. -/
theorem ownSems0_eq :
    (SparseCore.Cfg.ownSems0 (thr d L) : sProp 𝕄)
      = iprop(semVal (own d L (.dma cc0_scoped0.sem)) 0 ∗ semVal (own d L (.dma cc0_scratch3.sem)) 0 ∗ semVal (own d L (.dma cc0_scoped1.sem)) 0
          ∗ bigSep ((((SparseCore.Cfg.ownCells (thr d L)).erase (own d L (.dma cc0_scoped0.sem))).erase (own d L (.dma cc0_scratch3.sem))).erase
              (own d L (.dma cc0_scoped1.sem))) fun g => semVal g 0) := by
  have mem : ∀ s : SemLoc sig, s.isScoped .scVector = true → own d L s ∈ SparseCore.Cfg.ownCells (thr d L) :=
    fun s hs => SparseCore.Cfg.mem_ownCells.mpr ⟨rfl, hs⟩
  have ne : ∀ {s s' : SemLoc sig}, s ≠ s' → own d L s ≠ own d L s' := fun h e => h (Prod.ext_iff.mp e).2
  unfold SparseCore.Cfg.ownSems0
  rw [SparseCore.bigSep_erase' (mem (.dma cc0_scoped0.sem) (by decide)),
    SparseCore.bigSep_erase' (Finset.mem_erase.mpr ⟨ne (s := .dma cc0_scratch3.sem) (s' := .dma cc0_scoped0.sem) (by decide), mem _ (by decide)⟩),
    SparseCore.bigSep_erase' (Finset.mem_erase.mpr ⟨ne (s := .dma cc0_scoped1.sem) (s' := .dma cc0_scratch3.sem) (by decide), Finset.mem_erase.mpr
      ⟨ne (s := .dma cc0_scoped1.sem) (s' := .dma cc0_scoped0.sem) (by decide), mem _ (by decide)⟩⟩)]

/-- A scratch buffer of the tile, by its name. -/
abbrev ownB (b : Ref sig .scVector) : DevRef τ sig := (Proc.scVector (cV L) (jV L)).devRef b

/-- The tile's list, ring and block among its own buffers: they, at some contents, and the rest. -/
theorem ownBufs_eq :
    (SparseCore.Cfg.ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((SparseCore.Cfg.ownRefs (τ := τ) (.scVector (cV L) (jV L))).erase (ownB L cc0_scratch0)).erase (ownB L cc0_scratch1)).erase
              (ownB L cc0_scratch2)) fun b => iprop(∃ f, ((d, b) : Loc nD τ sig) ↦{fullShare} f)) := by
  have ne : ∀ {b b' : Ref sig .scVector}, b ≠ b' → ownB L b ≠ ownB L b' := fun h e => h (Proc.devRef_injective _ e)
  have mem : ∀ b : Ref sig .scVector, (ownB L b).owner = .proc (.scVector (cV L) (jV L)) → ownB L b ∈ SparseCore.Cfg.ownRefs (τ := τ) (.scVector (cV L) (jV L)) :=
    fun b hb => SparseCore.Cfg.mem_ownRefs_of_owner hb
  unfold SparseCore.Cfg.ownBufs
  refine (SparseCore.bigSep_erase' (mem cc0_scratch0 rfl)).trans ?_
  rw [SparseCore.bigSep_erase' (Finset.mem_erase.mpr ⟨ne (b := cc0_scratch1) (b' := cc0_scratch0) (by decide), mem cc0_scratch1 rfl⟩),
    SparseCore.bigSep_erase' (Finset.mem_erase.mpr ⟨ne (b := cc0_scratch2) (b' := cc0_scratch1) (by decide), Finset.mem_erase.mpr
      ⟨ne (b := cc0_scratch2) (b' := cc0_scratch0) (by decide), mem cc0_scratch2 rfl⟩⟩)]

/-! ## The task -/

/-- The tile's part of what the call is given and gives back: its row of the indices, a share of the table, its columns
    of the result at contents `g`. -/
def Part (q : PosShare TreeShare) (fX : S32x512.Idx → BitVec 32) (fT : S16x1000000.Idx → Elt F .f32) (g : S16x16384.Idx → Elt F .f32) : sProp 𝕄 :=
  iprop(((rowM L).view.loc (thr d L) ↦[(rowM L).view.set]{fullShare} fX) ∗ (tabM.view.loc (thr d L) ↦{q} fT)
    ∗ ((partM L).view.loc (thr d L) ↦[(partM L).view.set]{fullShare} g))

set_option maxHeartbeats 4000000 in
/-- The task of one tile: given its part, it gives it back with the result's columns gathered. -/
theorem tile_body (hF : (K (F := F)).Facts) (q : PosShare TreeShare) (fX : S32x512.Idx → BitVec 32) (fT : S16x1000000.Idx → Elt F .f32)
    (g : S16x16384.Idx → Elt F .f32) (hX : ∀ x, (fX x).toNat < 1000000) (O : CellTallies nD τ sig (HIx 1)) (W : Waits sig (HIx 1))
    (hO : ∀ g, O g none = 0) :
    iprop(levAts (K (F := F)).L (K (F := F)).lev ∗ emp ∗ Part d L q fX fT g
        ∗ scopedBufs (thr d L) ∗ scopedSems0 (thr d L) ∗ owes (thr d L) O W)
      ⊢ run d L (cc0_gather_kernel (F := F) L tabM (Memref.isWhole_whole _) idxM (Memref.isWhole_whole _) outM (Memref.isWhole_whole _)
          lstM (Memref.isWhole_whole _) ringM (Memref.isWhole_whole _) blkM (Memref.isWhole_whole _) cc0_scratch3 cc0_scoped0 cc0_scoped1)
          fun _ => iprop(Part d L q fX fT (gathered fX fT)
            ∗ scopedBufs (thr d L) ∗ scopedSems0 (thr d L)
            ∗ ∃ W', ⌜∀ p ∈ W', p ∈ W ∨ p.2 = none⌝ ∗ owes (thr d L) O W') := by
  rw [cc0_gather_kernel_eq_skeleton]; unfold cc0_gather_kernel_skel run
  rw [(K (F := F)).scopedBufs_V hF d (cV L) (jV L), SparseCore.Cfg.scopedSems0_V (Val := Elt F) d (cV L) (jV L), ownSems0_eq, ownBufs_eq]
  unfold Part
  iintro ⟨#Hlv, -, ⟨HX, HT, HY⟩, ⟨⟨%fl, Hl⟩, ⟨%fr, Hr⟩, ⟨%fb, Hb⟩, Hbufs⟩, ⟨HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  ihave Hl := (Entails.of_eq (show ((thr d L).loc cc0_scratch0 ↦{fullShare} fl : sProp 𝕄) = lstM.view.loc (thr d L) ↦{fullShare} fl from rfl)) $$ Hl
  sl_exec
  ihave Hmw' := (show levAts (K (F := F)).L (K (F := F)).lev ⊢ Transfers.MayWaits (thr d L) (default : HIx 1) O from
    (K (F := F)).mayWaits_none (thr := thr d L) hO) $$ Hlv
  have el : View.write (Elt F) lstM.view fl ((rowM L).view.read (Elt F) fX) Finset.univ = list L fX :=
    (View.write_whole_univ _ _ _).trans (rowM_read L fX)
  ihave Hl := (Entails.of_eq (show (lstM.view.loc (thr d L) ↦{fullShare} View.write (Elt F) lstM.view fl (tile_body.sl.dma0 L fX) Finset.univ : sProp 𝕄)
      = lstM.view.loc (thr d L) ↦{fullShare} list L fX from congrArg (fun f => (lstM.view.loc (thr d L) ↦{fullShare} f : sProp 𝕄)) el)) $$ Hl
  iapply (Scf.wp_for_bind frame (wpE (defs₀ (F := F)) 𝒱₀ (thr d L) none) Set.univ 0#32 16#32 1#32 k0_t1_ok _ _
    (fun t _ => Inv d L (list L fX) fT q O W t)
    (fun t _ => trip t (iota_lane _) fun x => hX _)) $$ [Hl Hr HT Hb HsB HO Hmw]
  · unfold Inv Owed Block
    isplitl [Hl]; · iexact Hl
    isplitl [Hr]; · iexists fr; iexact Hr
    isplitl [HT]; · iexact HT
    isplitl [Hb]
    · iexists fb
      isplitr; swap; · iexact Hb
      ipureintro
      exact fun i hi => absurd hi (by omega)
    isplitl [HsB]; · iexact HsB
    isplitl [Hmw]; · iexact Hmw
    iexists _
    isplitr; swap; · iexact HO
    ipureintro
    intro p hp
    rcases Finset.mem_insert.mp hp with hp | hp
    · exact .inr (hp ▸ rfl)
    · exact .inl hp
  iintro %acc HI
  ihave HI := (show Inv d L (list L fX) fT q O W (Scf.trips 0#32 16#32 1#32) ⊢ Inv d L (list L fX) fT q O W 16 from Entails.of_eq rfl) $$ HI
  unfold Inv Owed Block
  icases HI with ⟨Hl, ⟨%fr', Hr⟩, HT, ⟨%f, %hf, Hb⟩, HsB, Hmw, %W', %hW', HO⟩
  sl_exec
  sl_step
  isplitl [HX HT HY]
  · isplitl [HX]; · iexact HX
    isplitl [HT]; · iexact HT
    iapply (Entails.of_eq (pointsTo_congr (partM_write L fX fT g f fun i hi => hf i (by omega))))
    iexact HY
  isplitl [Hl Hr Hb Hbufs]
  · isplitl [Hl]; · iexists _; iexact Hl
    isplitl [Hr]; · iexists _; iexact Hr
    isplitl [Hb]; · iexists _; iexact Hb
    iexact Hbufs
  isplitl [HsA HsB HsC Hsems]
  · isplitl [HsA]; · iexact HsA
    isplitl [HsB]; · iexact HsB
    isplitl [HsC]; · iexact HsC
    iexact Hsems
  iexists _
  isplitr; swap; · iexact HO
  ipureintro
  intro p hp
  rcases Finset.mem_insert.mp hp with hp | hp
  · exact .inr (hp ▸ rfl)
  · exact hW' p hp

end Cert.KernelIdeal.Col

end
-- ==== Proof.Parts.lean ====
/-
  The arrays of the call as the parts of its thirty-two tiles, and back.
-/
module

public import proofs.«01_k».proof.Proof.Tile

@[expose] public section

noncomputable section

namespace Cert.KernelIdeal.Col

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The place in the grid of tile `s` of SparseCore `c`. -/
def place (c : Fin (grid0.bound 0)) (s : Fin (grid0.bound 1)) : grid0.Coords :=
  fun | 0 => c | 1 => s | ⟨_ + 2, h⟩ => absurd h (Nat.not_lt.2 (Nat.le_add_left _ _))

/-- The place of a pair of a SparseCore and a tile. -/
abbrev at_ (p : Fin 2 × Fin 16) : grid0.Coords := place p.1 p.2

/-- Pairs with one tile number are one pair. -/
theorem tileNo_inj {p p' : Fin 2 × Fin 16} (h : tileNo (at_ p) = tileNo (at_ p')) : p = p' := by
  have e : 2 * p.2.val + p.1.val = 2 * p'.2.val + p'.1.val := h
  have h1 := p.1.isLt
  have h1' := p'.1.isLt
  exact Prod.ext (Fin.ext (by omega)) (Fin.ext (by omega))

/-- The pair with a given tile number. -/
theorem tileNo_surj {n : ℕ} (h : n < 32) : ∃ p, tileNo (at_ p) = n :=
  ⟨(⟨n % 2, by omega⟩, ⟨n / 2, by omega⟩), show 2 * (n / 2) + n % 2 = n by omega⟩

/-- The places of the indices that a pair's tile has. -/
abbrev rowSet (p : Fin 2 × Fin 16) : Finset S32x512.Idx := (rowM (at_ p)).view.set

/-- The places of the result that a pair's tile has. -/
abbrev partSet (p : Fin 2 × Fin 16) : Finset S16x16384.Idx := (partM (at_ p)).view.set

/-- The tiles' rows of the indices do not overlap. -/
theorem rows_disjoint : ∀ p ∈ (Finset.univ : Finset (Fin 2 × Fin 16)), ∀ p' ∈ (Finset.univ : Finset (Fin 2 × Fin 16)), p ≠ p' →
    Disjoint (rowSet p) (rowSet p') := by
  intro p _ p' _ hne
  rw [Finset.disjoint_left]
  intro i h h'
  obtain ⟨x, -, rfl⟩ := Finset.mem_map.1 h
  obtain ⟨y, -, e⟩ := Finset.mem_map.1 h'
  rw [rowM_emb, rowM_emb] at e
  have e0 : tileNo (at_ p') % 32 = tileNo (at_ p) % 32 := congrArg Fin.val (congrFun e 0)
  have hl := tileNo_lt (at_ p)
  have hl' := tileNo_lt (at_ p')
  exact hne (tileNo_inj (by omega))

/-- The tiles' rows are all the indices. -/
theorem rows_cover : (Finset.univ : Finset (Fin 2 × Fin 16)).biUnion rowSet = Finset.univ := by
  refine Finset.eq_univ_iff_forall.2 fun i => ?_
  have h0 : (i 0).val < 32 := (i 0).isLt
  have h1 : (i 1).val < 512 := (i 1).isLt
  obtain ⟨p, hp⟩ := tileNo_surj h0
  refine Finset.mem_biUnion.2 ⟨p, Finset.mem_univ _, Finset.mem_map.2 ⟨pos (i 1).val, Finset.mem_univ _, ?_⟩⟩
  refine (rowM_emb (at_ p) _).trans ?_
  funext a
  match a with
  | ⟨0, _⟩ => exact Fin.ext (show tileNo (at_ p) % 32 = (i 0).val by omega)
  | ⟨1, _⟩ => exact Fin.ext (show (i 1).val % 512 % 512 = (i 1).val by omega)

/-- The tiles' columns of the result do not overlap. -/
theorem parts_disjoint : ∀ p ∈ (Finset.univ : Finset (Fin 2 × Fin 16)), ∀ p' ∈ (Finset.univ : Finset (Fin 2 × Fin 16)), p ≠ p' →
    Disjoint (partSet p) (partSet p') := by
  intro p _ p' _ hne
  rw [Finset.disjoint_left]
  intro i h h'
  obtain ⟨x, -, rfl⟩ := Finset.mem_map.1 h
  obtain ⟨y, -, e⟩ := Finset.mem_map.1 h'
  have ex := (partM_emb (at_ p) x).2
  have ey := (partM_emb (at_ p') y).2
  rw [e, ex] at ey
  have hx : (x 1).val < 512 := (x 1).isLt
  have hy : (y 1).val < 512 := (y 1).isLt
  exact hne (tileNo_inj (by omega))

/-- The tiles' columns are all the result. -/
theorem parts_cover : (Finset.univ : Finset (Fin 2 × Fin 16)).biUnion partSet = Finset.univ := by
  refine Finset.eq_univ_iff_forall.2 fun i => ?_
  have h1 : (i 1).val < 16384 := (i 1).isLt
  obtain ⟨p, hp⟩ := tileNo_surj (n := (i 1).val / 512) (by omega)
  let x : S16x512.Idx := fun a => match a with
    | ⟨0, _⟩ => i 0
    | ⟨1, _⟩ => ⟨(i 1).val % 512, Nat.mod_lt _ (by decide)⟩
  obtain ⟨e0, e1⟩ := partM_emb (at_ p) x
  refine Finset.mem_biUnion.2 ⟨p, Finset.mem_univ _, Finset.mem_map.2 ⟨x, Finset.mem_univ _, ?_⟩⟩
  funext a
  match a with
  | ⟨0, _⟩ => exact Fin.ext e0
  | ⟨1, _⟩ => exact Fin.ext (e1.trans (show 512 * tileNo (at_ p) + (i 1).val % 512 = (i 1).val by rw [hp]; omega))

/-- The tile's part, at its place. -/
abbrev partAt (d : Dev nD) (fX : S32x512.Idx → BitVec 32) (fT : S16x1000000.Idx → Elt F .f32) (g : S16x16384.Idx → Elt F .f32)
    (p : Fin 2 × Fin 16) : sProp 𝕄 := Part d (at_ p) (piece 5 fullShare (tileNo (at_ p))) fX fT g

/-- The indices whole are the tiles' rows of them. -/
theorem rows_eq (d : Dev nD) (fX : S32x512.Idx → BitVec 32) :
    ((SparseCore.T d).loc main_v0 ↦{fullShare} fX : sProp 𝕄)
      = bigSep Finset.univ fun p : Fin 2 × Fin 16 => (SparseCore.T d).loc main_v0 ↦[rowSet p]{fullShare} fX := by
  rw [← pointsTo_biUnion Finset.univ (ℓ := (SparseCore.T d).loc main_v0) rowSet rows_disjoint, rows_cover]

/-- The result whole is the tiles' columns of it. -/
theorem parts_eq (d : Dev nD) (g : S16x16384.Idx → Elt F .f32) :
    ((SparseCore.T d).loc main_v2 ↦{fullShare} g : sProp 𝕄)
      = bigSep Finset.univ fun p : Fin 2 × Fin 16 => (SparseCore.T d).loc main_v2 ↦[partSet p]{fullShare} g := by
  rw [← pointsTo_biUnion Finset.univ (ℓ := (SparseCore.T d).loc main_v2) partSet parts_disjoint, parts_cover]

/-- The table whole is the tiles' shares of it. -/
theorem shares_eq (d : Dev nD) (fT : S16x1000000.Idx → Elt F .f32) :
    ((SparseCore.T d).loc main_v1 ↦{fullShare} fT : sProp 𝕄)
      = bigSep Finset.univ fun p : Fin 2 × Fin 16 => (SparseCore.T d).loc main_v1 ↦{piece 5 fullShare (tileNo (at_ p))} fT := by
  rw [pointsTo_pieces (ℓ := (SparseCore.T d).loc main_v1) Finset.univ fT 5 fullShare,
    bigSep_univ_equiv ((parity 16).trans (finCongr (show 2 * 16 = 2 ^ 5 by decide)))
      (fun i : Fin (2 ^ 5) => ((SparseCore.T d).loc main_v1 ↦[Finset.univ]{piece 5 fullShare i.val} fT : sProp 𝕄))]
  rfl

/-- The three arrays of the call whole are the tiles' parts of them. -/
theorem arrays_eq (d : Dev nD) (fX : S32x512.Idx → BitVec 32) (fT : S16x1000000.Idx → Elt F .f32) (g : S16x16384.Idx → Elt F .f32) :
    (iprop(((SparseCore.T d).loc main_v0 ↦{fullShare} fX) ∗ ((SparseCore.T d).loc main_v1 ↦{fullShare} fT)
        ∗ ((SparseCore.T d).loc main_v2 ↦{fullShare} g)) : sProp 𝕄)
      = bigSep Finset.univ fun c : Fin 2 => bigSep Finset.univ fun i : Fin 16 => partAt d fX fT g (c, i) := by
  rw [← bigSep_univ_prod (fun p : Fin 2 × Fin 16 => partAt d fX fT g p)]
  unfold partAt Part
  rw [bigSep_sep', bigSep_sep', rows_eq, shares_eq, parts_eq]

end Cert.KernelIdeal.Col

end
-- ==== Proof.Launch.lean ====
/-
  The launch: what the call is handed and hands back, the host's operations around it, and the program's run.
-/
module

public import proofs.«01_k».proof.Proof.Parts

@[expose] public section

noncomputable section

namespace Cert.KernelIdeal.Col

open Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents -/

/-- The indices of the launch memory, as the call takes them. -/
def callX (d : Dev nD) : S32x512.Idx → BitVec 32 :=
  shapeCast S32x512 (m ((SparseCore.T d).loc main_arg0) : S16384.Idx → BitVec 32) shapeCasts_S16384_S32x512

/-- The table of the launch memory, as the call takes it. -/
def callT (d : Dev nD) : S16x1000000.Idx → Elt F .f32 :=
  transpose S16x1000000 [1, 0] (m ((SparseCore.T d).loc main_arg1) : S1000000x16.Idx → Elt F .f32) transposes_S1000000x16_S16x1000000_1_0

/-- What the call leaves. -/
def callY (d : Dev nD) : S16x16384.Idx → Elt F .f32 := gathered (callX m d) (callT m d)

/-- The program's result. -/
def res (d : Dev nD) : S16384x16.Idx → Elt F .f32 := transpose S16384x16 [1, 0] (callY m d) transposes_S16x16384_S16384x16_1_0

/-- What the proof asks of the launch memory: every index is a row of the table. -/
def InRange : Prop := ∀ (d : Dev nD) (i : S16384.Idx), ((m ((SparseCore.T d).loc main_arg0) : S16384.Idx → BitVec 32) i).toNat < 1000000

/-! ## What the handshakes carry -/

/-- A tile's part before the call. -/
abbrev before (d : Dev nD) (p : Fin 2 × Fin 16) : sProp 𝕄 := partAt d (callX m d) (callT m d) (m ((SparseCore.T d).loc main_v2)) p

/-- A tile's part after the call. -/
abbrev after (d : Dev nD) (p : Fin 2 × Fin 16) : sProp 𝕄 := partAt d (callX m d) (callT m d) (callY m d) p

/-- Each SparseCore takes its sixteen tiles' parts and each tile its own; they bring them back with the result's columns
    gathered. -/
def P : (K (F := F)).Pay (nD := nD) (Val := Elt F) (Name := ℕ) (U := UU) where
  st := fun q d c => match q with | 0 => bigSep Finset.univ fun i : Fin 16 => before m d (Fin.cast nCore_zero c, i)
  dn := fun q d c => match q with | 0 => bigSep Finset.univ fun i : Fin 16 => after m d (Fin.cast nCore_zero c, i)
  go := fun q d c i => match q with | 0 => before m d (Fin.cast nCore_zero c, Fin.cast nSub_zero i)
  td := fun q d c i => match q with | 0 => after m d (Fin.cast nCore_zero c, Fin.cast nSub_zero i)
  x := fun _ _ => iprop(emp)

/-- A tile's part may be stored in an invariant. -/
instance part_storable (d : Dev nD) (L : grid0.Coords) (q : PosShare TreeShare) (fX : S32x512.Idx → BitVec 32)
    (fT : S16x1000000.Idx → Elt F .f32) (g : S16x16384.Idx → Elt F .f32) : BI.Storable (upEmb : UEmb _ 𝕄) (Part d L q fX fT g) := by
  unfold Part
  infer_instance

/-- So may all that the handshakes carry. -/
instance P_storable : (P (F := F) m).IsStorable where
  st q d c := match q with
    | 0 => (inferInstance : BI.Storable (upEmb : UEmb _ 𝕄) (bigSep Finset.univ fun i : Fin 16 => before m d (Fin.cast nCore_zero c, i)))
  dn q d c := match q with
    | 0 => (inferInstance : BI.Storable (upEmb : UEmb _ 𝕄) (bigSep Finset.univ fun i : Fin 16 => after m d (Fin.cast nCore_zero c, i)))
  go q d c i := match q with
    | 0 => (inferInstance : BI.Storable (upEmb : UEmb _ 𝕄) (before m d (Fin.cast nCore_zero c, Fin.cast nSub_zero i)))
  td q d c i := match q with
    | 0 => (inferInstance : BI.Storable (upEmb : UEmb _ 𝕄) (after m d (Fin.cast nCore_zero c, Fin.cast nSub_zero i)))

/-! ## The task's obligation -/

/-- What a tile runs for the call. -/
theorem defs₀_vector (c : Fin τ.nSC) (s : Fin τ.nSub) :
    defs₀ (F := F) (.scVector c s) 0 ()
      = SparseCore.onTile hcore0 hsub0 (fun c s => cc0_gather_kernel (place c s)
          tabM (Memref.isWhole_whole _) idxM (Memref.isWhole_whole _) outM (Memref.isWhole_whole _)
          lstM (Memref.isWhole_whole _) ringM (Memref.isWhole_whole _) blkM (Memref.isWhole_whole _) cc0_scratch3 cc0_scoped0 cc0_scoped1) ⟨⟩ c s := rfl

/-- Waits on the task's own copies are among the waits the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets its obligation. -/
theorem tileObl (hF : (K (F := F)).Facts) (hX : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (place ⟨_, hci.1⟩ ⟨_, hci.2⟩) hF _ (callX m d) (callT m d) (m ((SparseCore.T d).loc main_v2))
    (fun x => hX d _) O W hO).trans (wp_mono frame _ _ fun _ => obl_post)

/-- A separating conjunction over a SparseCore's tasks is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's part is its tiles' parts, before and after. -/
theorem vecSplit : (K (F := F)).VecSplit' (P m) 0 := by
  intro d c
  show (bigSep Finset.univ fun i : Fin 16 => before m d (Fin.cast nCore_zero c, i)) ⊢ |={Set.univ}=> iprop(
      (bigSep Finset.univ fun i : Fin ((K (F := F)).nSub 0) => before m d (Fin.cast nCore_zero c, Fin.cast nSub_zero i))
      ∗ ((bigSep Finset.univ fun i : Fin ((K (F := F)).nSub 0) => after m d (Fin.cast nCore_zero c, Fin.cast nSub_zero i))
          -∗ bigSep Finset.univ fun i : Fin 16 => after m d (Fin.cast nCore_zero c, i)))
  rw [bigSep_tasks (F := F) (fun i => before m d (Fin.cast nCore_zero c, i)), bigSep_tasks (F := F) (fun i => after m d (Fin.cast nCore_zero c, i))]
  iintro H; imodintro
  isplitl [H]; · iexact H
  iintro H; iexact H

/-! ## The ghost state at the launch -/

/-- The handshakes' tokens, and no counters. -/
def u₀ : UU := (initOf (K (F := F)).hsCells (K (F := F)).hsToks, 1)

/-- A separating conjunction of nothing is nothing. -/
theorem bigSep_emp' {I : Type} (s : Finset I) : (bigSep s fun _ => iprop(emp)) = (iprop(emp) : sProp 𝕄) := bigSep_emp_const s

/-- It gives the handshakes theirs; the threads need nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

/-- The indices. -/
abbrev xD : DevRef τ sig := Proc.devRef .tc (main_arg0 : Ref sig .tc)
/-- The table. -/
abbrev tD : DevRef τ sig := Proc.devRef .tc (main_arg1 : Ref sig .tc)
/-- The indices reshaped. -/
abbrev v0D : DevRef τ sig := Proc.devRef .tc (main_v0 : Ref sig .tc)
/-- The table transposed. -/
abbrev v1D : DevRef τ sig := Proc.devRef .tc (main_v1 : Ref sig .tc)
/-- The call's result. -/
abbrev v2D : DevRef τ sig := Proc.devRef .tc (main_v2 : Ref sig .tc)
/-- The program's result. -/
abbrev v3D : DevRef τ sig := Proc.devRef .tc (main_v3 : Ref sig .tc)

/-- The reshape of the indices. -/
abbrev opX : HloOp τ sig (Elt F) := StableHlo.reshape main_arg0 main_v0 (rfl : (.i32 : EltTy) = .i32) shapeCasts_S16384_S32x512
/-- The transpose of the table. -/
abbrev opT : HloOp τ sig (Elt F) := StableHlo.unary main_arg1 main_v1
  ((transpose S16x1000000 [1, 0] · transposes_S1000000x16_S16x1000000_1_0) : (⟨S1000000x16, .f32⟩ : BufTy).Contents (Elt F) → (⟨S16x1000000, .f32⟩ : BufTy).Contents (Elt F))
/-- The transpose of the call's result. -/
abbrev opR : HloOp τ sig (Elt F) := StableHlo.unary main_v2 main_v3
  ((transpose S16384x16 [1, 0] · transposes_S16x16384_S16384x16_1_0) : (⟨S16x16384, .f32⟩ : BufTy).Contents (Elt F) → (⟨S16384x16, .f32⟩ : BufTy).Contents (Elt F))

/-- The host's arrays. -/
abbrev All : Finset (DevRef τ sig) := {xD, tD, v0D, v1D, v2D, v3D}

/-- Holding the host's arrays is holding each. -/
theorem held_All (d : Dev nD) (W : Valuation τ sig (Elt F)) :
    (held (T d) All W : sProp 𝕄)
      = iprop(((SparseCore.T d).loc main_arg0 ↦{fullShare} W xD) ∗ ((SparseCore.T d).loc main_arg1 ↦{fullShare} W tD)
          ∗ ((SparseCore.T d).loc main_v0 ↦{fullShare} W v0D) ∗ ((SparseCore.T d).loc main_v1 ↦{fullShare} W v1D)
          ∗ ((SparseCore.T d).loc main_v2 ↦{fullShare} W v2D) ∗ (SparseCore.T d).loc main_v3 ↦{fullShare} W v3D) := by
  unfold held All
  rw [SparseCore.bigSep_insert' (by decide), SparseCore.bigSep_insert' (by decide), SparseCore.bigSep_insert' (by decide),
    SparseCore.bigSep_insert' (by decide), SparseCore.bigSep_insert' (by decide), bigSep_singleton]

/-- The host's arrays are those no kernel scopes. -/
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_v0 ↦{fullShare} W main_v0) ∗ ((SparseCore.T d).loc main_v1 ↦{fullShare} W main_v1)
          ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch. -/
def V0 (d : Dev nD) : Valuation τ sig (Elt F) := fun b => m (d, b)
/-- The arrays before the call. -/
def V2 (d : Dev nD) : Valuation τ sig (Elt F) := (opT (F := F)).result ((opX (F := F)).result (V0 m d))
/-- The arrays after the call. -/
def V3 (d : Dev nD) : Valuation τ sig (Elt F) := Function.update (V2 m d) v2D (callY m d)

/-- The launch's arrays, held. -/
theorem unscoped_held (d : Dev nD) : (unscopedBufs d (fun b => m ((SparseCore.T d).loc b)) : sProp 𝕄) = held (T d) All (V0 m d) := by
  rw [unscopedBufs_eq, held_All]; rfl

/-- An array that neither of the first two operations writes is as it was launched. -/
theorem V2_keep (d : Dev nD) {b : DevRef τ sig} (h0 : b ∉ ({v0D} : Finset (DevRef τ sig))) (h1 : b ∉ ({v1D} : Finset (DevRef τ sig))) :
    V2 m d b = m (d, b) := by
  unfold V2
  rw [(opT (F := F)).result_of_not_mem _ h1, (opX (F := F)).result_of_not_mem _ h0]
  rfl

/-- The indices as the call takes them. -/
theorem V2_v0 (d : Dev nD) : V2 m d v0D = callX m d := by
  unfold V2
  rw [(opT (F := F)).result_of_not_mem _ (show v0D ∉ ({v1D} : Finset (DevRef τ sig)) by decide)]
  exact StableHlo.reshape_result _ _ _ _ _ _ _

/-- The table as the call takes it. -/
theorem V2_v1 (d : Dev nD) : V2 m d v1D = callT m d := by
  unfold V2
  refine (StableHlo.unary_result _ _ _ _ _ _).trans ?_
  rw [show (opX (F := F)).result (V0 m d) tD = m (d, tD) from
    ((opX (F := F)).result_of_not_mem _ (show tD ∉ ({v0D} : Finset (DevRef τ sig)) by decide)).trans rfl]
  rfl

/-- The arrays held before the call. -/
theorem held_V2 (d : Dev nD) :
    (held (T d) All ((opT (F := F)).result ((opX (F := F)).result (V0 m d))) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_v0 ↦{fullShare} callX m d) ∗ ((SparseCore.T d).loc main_v1 ↦{fullShare} callT m d)
          ∗ ((SparseCore.T d).loc main_v2 ↦{fullShare} m ((SparseCore.T d).loc main_v2)) ∗ (SparseCore.T d).loc main_v3 ↦{fullShare} m ((SparseCore.T d).loc main_v3)) := by
  show held (SparseCore.T d) All (V2 m d) = _
  rw [held_All, V2_keep m d (b := xD) (by decide) (by decide), V2_keep m d (b := tD) (by decide) (by decide), V2_v0, V2_v1,
    V2_keep m d (b := v2D) (by decide) (by decide), V2_keep m d (b := v3D) (by decide) (by decide)]

/-- The arrays held after the call. -/
theorem held_V3 (d : Dev nD) :
    (held (T d) All (V3 m d) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_v0 ↦{fullShare} callX m d) ∗ ((SparseCore.T d).loc main_v1 ↦{fullShare} callT m d)
          ∗ ((SparseCore.T d).loc main_v2 ↦{fullShare} callY m d) ∗ (SparseCore.T d).loc main_v3 ↦{fullShare} m ((SparseCore.T d).loc main_v3)) := by
  unfold V3
  rw [held_All, Function.update_of_ne (show xD ≠ v2D by decide), Function.update_of_ne (show tD ≠ v2D by decide),
    Function.update_of_ne (show v0D ≠ v2D by decide), Function.update_of_ne (show v1D ≠ v2D by decide),
    Function.update_of_ne (show v3D ≠ v2D by decide), Function.update_self,
    V2_keep m d (b := xD) (by decide) (by decide), V2_keep m d (b := tD) (by decide) (by decide), V2_v0, V2_v1,
    V2_keep m d (b := v3D) (by decide) (by decide)]

/-- An array that the last operation does not write is as the call left it. -/
theorem V4_keep (d : Dev nD) {b : DevRef τ sig} (h : b ∉ ({v3D} : Finset (DevRef τ sig))) :
    (opR (F := F)).result (V3 m d) b = V3 m d b := (opR (F := F)).result_of_not_mem _ h

/-- The arguments and the result held at the end. -/
theorem held_V4 (d : Dev nD) :
    (held (T d) All ((opR (F := F)).result (V3 m d)) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_v0 ↦{fullShare} (opR (F := F)).result (V3 m d) v0D) ∗ ((SparseCore.T d).loc main_v1 ↦{fullShare} (opR (F := F)).result (V3 m d) v1D)
          ∗ ((SparseCore.T d).loc main_v2 ↦{fullShare} (opR (F := F)).result (V3 m d) v2D) ∗ (SparseCore.T d).loc main_v3 ↦{fullShare} res m d) := by
  have ex : (opR (F := F)).result (V3 m d) xD = m ((SparseCore.T d).loc main_arg0) :=
    (V4_keep m d (b := xD) (by decide)).trans ((Function.update_of_ne (show xD ≠ v2D by decide) _ _).trans (V2_keep m d (by decide) (by decide)))
  have et : (opR (F := F)).result (V3 m d) tD = m ((SparseCore.T d).loc main_arg1) :=
    (V4_keep m d (b := tD) (by decide)).trans ((Function.update_of_ne (show tD ≠ v2D by decide) _ _).trans (V2_keep m d (by decide) (by decide)))
  have e2 : V3 m d v2D = callY m d := Function.update_self _ _ _
  have er : (opR (F := F)).result (V3 m d) v3D = res m d := (StableHlo.unary_result _ _ _ _ _ _).trans (by rw [e2]; rfl)
  rw [held_All, ex, et, er]

/-- What the SparseCores are handed is the call's three arrays. -/
theorem st0_eq (d : Dev nD) : (bigSep Finset.univ fun c : Fin ((K (F := F)).nCore 0) => (P m).st 0 d c)
    = iprop(((SparseCore.T d).loc main_v0 ↦{fullShare} callX m d) ∗ ((SparseCore.T d).loc main_v1 ↦{fullShare} callT m d)
        ∗ ((SparseCore.T d).loc main_v2 ↦{fullShare} m ((SparseCore.T d).loc main_v2))) :=
  Eq.trans (bigSep_congr fun _ _ => rfl) (arrays_eq d (callX m d) (callT m d) (m ((SparseCore.T d).loc main_v2))).symm

/-- What they hand back is the three arrays, the result gathered. -/
theorem dn0_eq (d : Dev nD) : (bigSep Finset.univ fun c : Fin ((K (F := F)).nCore 0) => (P m).dn 0 d c)
    = iprop(((SparseCore.T d).loc main_v0 ↦{fullShare} callX m d) ∗ ((SparseCore.T d).loc main_v1 ↦{fullShare} callT m d)
        ∗ ((SparseCore.T d).loc main_v2 ↦{fullShare} callY m d)) :=
  Eq.trans (bigSep_congr fun _ _ => rfl) (arrays_eq d (callX m d) (callT m d) (callY m d)).symm

/-- The reshape names only the host's arrays. -/
theorem hopX : (opX (F := F)).bufs ⊆ All := show ({xD, v0D} : Finset (DevRef τ sig)) ⊆ All by decide
/-- So does the table's transpose. -/
theorem hopT : (opT (F := F)).bufs ⊆ All := show ({tD, v1D} : Finset (DevRef τ sig)) ⊆ All by decide
/-- So does the result's. -/
theorem hopR : (opR (F := F)).bufs ⊆ All := show ({v2D, v3D} : Finset (DevRef τ sig)) ⊆ All by decide

/-- What the host's program leaves: its arguments as launched, and its result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v3 ↦{fullShare} res m d)

/-- The host's program: the reshape and the transpose, the call, the transpose of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := All) hopX (V := V0 m d)) $$ [Hb Hheld]
  · isplitl [Hb] <;> iassumption
  iintro ⟨Hb, Hheld⟩
  rw [wp_ret]; imodintro
  iapply (wp_hlo_within 𝒱 (SparseCore.T d) none Set.univ (op := opT) (S := All) hopT (V := (opX (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hx, Ht, H0, H1, H2, H3⟩
  iapply ((K (F := F)).wp_run (D (F := F)) 𝒱 (EH := EH) (P := P m) κ d 0) $$ [Hst Hx Ht H0 H1 H2 H3 Hb Hts]
  isplitr; · iexact Hctx
  isplitl [Hst]; · iexact Hst
  isplitl [H0 H1 H2]
  · rw [st0_eq]
    isplitl [H0]; · iexact H0
    isplitl [H1]; · iexact H1
    iexact H2
  iintro ⟨Hst, Hdn⟩
  ihave Hdn' := (Entails.of_eq (dn0_eq m d)) $$ Hdn
  icases Hdn' with ⟨H0, H1, H2⟩
  iapply (wp_hlo_within 𝒱 (SparseCore.T d) none Set.univ (op := opR) (S := All) hopR (V := V3 m d)) $$ [Hb Hx Ht H0 H1 H2 H3]
  · isplitl [Hb]; · iexact Hb
    rw [held_V3]
    isplitl [Hx]; · iexact Hx
    isplitl [Ht]; · iexact Ht
    isplitl [H0]; · iexact H0
    isplitl [H1]; · iexact H1
    isplitl [H2]; · iexact H2
    iexact H3
  iintro ⟨Hb, Hheld⟩
  ihave Hh := (Entails.of_eq (held_V4 (F := F) m d)) $$ Hheld
  icases Hh with ⟨Hx, Ht, -, -, -, H3⟩
  rw [wp_ret]; imodintro; imodintro
  isplitl [Hst]; · iexact Hst
  isplitr [Hb Hts]
  · isplitl [Hx]; · iexact Hx
    isplitl [Ht]; · iexact Ht
    iexact H3
  isplitl [Hb] <;> iassumption

/-! ## The program's run -/

/-- What a device's final memory holds. -/
def fq (d : Dev nD) (s' : Phys nD τ sig (Elt F)) : Prop :=
  s'.mem.mem ((SparseCore.T d).loc main_v3) = res m d ∧ s'.mem.mem ((SparseCore.T d).loc main_arg0) = m ((SparseCore.T d).loc main_arg0)
    ∧ s'.mem.mem ((SparseCore.T d).loc main_arg1) = m ((SparseCore.T d).loc main_arg1)

set_option maxRecDepth 16384 in
/-- It is what the host's program leaves. -/
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := (SparseCore.T d).loc main_arg0) (I := Finset.univ) (q := fullShare) (f := m ((SparseCore.T d).loc main_arg0)))) $$ [HSI Hx]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI Ht]
  · isplitl [HSI] <;> iassumption
  icases H with ⟨%h2, HSI, -⟩
  ihave H := (SI_pointsTo_agree (st := s') (ℓ := (SparseCore.T d).loc main_v3) (I := Finset.univ) (q := fullShare) (f := res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What the program's runs end with: on every device the result, the arguments unchanged; every semaphore at zero. -/
def QC : PUnit × MemSt nD τ sig (Elt F) → Prop := fun r =>
  (∀ c : Dev nD, r.2.mem ((SparseCore.T c).loc main_v3) = res m c ∧ r.2.mem ((SparseCore.T c).loc main_arg0) = m ((SparseCore.T c).loc main_arg0)
    ∧ r.2.mem ((SparseCore.T c).loc main_arg1) = m ((SparseCore.T c).loc main_arg1)) ∧ r.2.sem = fun _ => 0

/-- From any launch memory whose indices are rows of the table, every run ends so. -/
theorem run_main [∀ e, Nonempty (Elt F e)] (hX : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Col

end
-- ==== Proof.Lookup.lean ====
/-
  What the reference computes when every index is in the range of the table: the rows of the table that the indices
  name.
-/
module

public import proofs.«01_k».proof.Proof.Gen.ReferenceIdeal.Run
public import Idealize.ShloMosaic.Lib.ReduceAll
public import Idealize.ShloMosaic.Lib.Claim

@[expose] public section

noncomputable section

namespace Cert.ReferenceIdeal.Look

open Cert.ReferenceIdeal Cert.ReferenceIdeal.Gen
open Idealize.ShloMosaic Idealize.SL.Sem

variable {F : FTy → Type} [FloatOps F]

/-- Place `n` of the array of indices, taken modulo its extent. -/
def nth (n : ℕ) : S16384.Idx
  | ⟨0, _⟩ => ⟨n % 16384, Nat.mod_lt _ (by decide)⟩

/-- Row `n` and column `l` of the table, each taken modulo its extent. -/
def entry (n l : ℕ) : S1000000x16.Idx
  | ⟨0, _⟩ => ⟨n % 1000000, Nat.mod_lt _ (by decide)⟩
  | ⟨1, _⟩ => ⟨l % 16, Nat.mod_lt _ (by decide)⟩

/-- The rows of the table `t` that the indices `x` name. -/
def looked {α : Type} (x : S16384.Idx → BitVec 32) (t : S1000000x16.Idx → α) : S16384x16.Idx → α :=
  fun y => t (entry (x (nth (y 0).val)).toNat (y 1).val)

/-! ## Words below a million, compared as signed words -/

/-- A word below a million is its own value as a signed word. -/
theorem toInt_small {v : BitVec 32} (h : v.toNat < 1000000) : v.toInt = v.toNat := by
  rw [BitVec.toInt_eq_toNat_cond, if_pos (by omega)]

/-- A word below a million is not negative. -/
theorem not_neg {v : BitVec 32} (h : v.toNat < 1000000) : IntOp.cmpi .slt v 0#32 = 0#1 := by
  have e : v.slt 0#32 = false := by
    rw [BitVec.slt_eq_decide, toInt_small h]
    exact decide_eq_false (by simp)
  show BitVec.ofBool (v.slt 0#32) = _
  rw [e]; rfl

/-- A word below a million is at least zero. -/
theorem at_least {v : BitVec 32} (h : v.toNat < 1000000) : IntOp.cmpi .sge v 0#32 = 1#1 := by
  have e : (0#32).sle v = true := by
    rw [BitVec.sle_eq_decide, toInt_small h]
    exact decide_eq_true (by simp)
  show BitVec.ofBool ((0#32).sle v) = _
  rw [e]; rfl

/-- A word below a million is at most the last row. -/
theorem at_most {v : BitVec 32} (h : v.toNat < 1000000) : IntOp.cmpi .sle v 999999#32 = 1#1 := by
  have e : v.sle 999999#32 = true := by
    rw [BitVec.sle_eq_decide, toInt_small h, toInt_small (v := 999999#32) (by decide)]
    exact decide_eq_true (by have : (999999#32).toNat = 999999 := rfl; omega)
  show BitVec.ofBool (v.sle 999999#32) = _
  rw [e]; rfl

/-! ## The reference's steps -/

/-- The row indices as the reference wraps them: one below zero counts from the table's end. -/
abbrev wrapped (x : S16384.Idx → BitVec 32) : S16384x1.Idx → BitVec 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 1000000#32))) x)

/-- An index in range is not moved by the wrapping. -/
theorem wrapped_apply {x : S16384.Idx → BitVec 32} (hx : ∀ i, (x i).toNat < 1000000) (i : S16384x1.Idx) :
    wrapped x i = x (nth (i 0).val) := by
  have hi : (i 0).val < 16384 := (i 0).isLt
  have hs : ∀ k, select (cmpi .slt x (broadcastInDim S16384 ![] bcast_S_S16384 (constantI S_ 32 0#32)))
      (addi x (broadcastInDim S16384 ![] bcast_S_S16384 (constantI S_ 32 1000000#32))) x k = x k := by
    intro k
    show (if IntOp.cmpi .slt (x k) 0#32 = 1 then _ else x k) = x k
    rw [not_neg (hx k)]
    exact if_neg (by decide)
  refine (hs _).trans (congrArg x ?_)
  funext a
  refine Fin.ext ?_
  match a with
  | ⟨0, _⟩ => exact (show (i 0).val = (i 0).val % 16384 by omega)

/-- Every wrapped index lies in the table. -/
theorem inside {x : S16384.Idx → BitVec 32} (hx : ∀ i, (x i).toNat < 1000000) (j : S16384.Idx) :
    Host.reduce IntOp.andi (andi (cmpi .sge (wrapped x) (broadcastInDim S16384x1 ![] bcast_S_S16384x1 (constantI S_ 32 0#32)))
      (cmpi .sle (wrapped x) (broadcastInDim S16384x1 ![0, 1] bcast_S1x1_S16384x1_0_1
        (broadcastInDim S1x1 ![1] bcast_S1_S1x1_1 (constantI S1 32 999999#32))))) (constantI S_ 1 1#1)
      reducesTo_S16384x1_S16384_d1 h_S_ j = 1#1 := by
  refine Host.reduce_andi_one _ _ _ _ j rfl fun i => ?_
  show IntOp.andi (IntOp.cmpi .sge (wrapped x i) 0#32) (IntOp.cmpi .sle (wrapped x i) 999999#32) = 1#1
  rw [wrapped_apply hx, at_least (hx _), at_most (hx _)]
  rfl

/-- The gather reads the table at the row its index names and the column of the place written. -/
theorem gather_row {α : Type} (t : S1000000x16.Idx → α) (v : S16384x1.Idx → BitVec 32) (hv : ∀ i, (v i).toNat < 1000000)
    (y : S16384x16.Idx) : ∃ i : S16384x1.Idx, (i 0).val = (y 0).val ∧
      Host.gather gather_S1000000x16_S16384x1_S16384x16_1_0_n_n_0_1_116 t v y = t (entry (v i).toNat (y 1).val) := by
  let d := gather_S1000000x16_S16384x1_S16384x16_1_0_n_n_0_1_116
  let i : S16384x1.Idx := d.siIdx y ⟨0, Nat.one_pos⟩
  refine ⟨i, rfl, ?_⟩
  show t (d.operandIdx y v) = _
  refine congrArg t ?_
  have h1 : (y 1).val < 16 := (y 1).isLt
  have hi := hv i
  funext a
  refine Fin.ext ?_
  show d.start y v a + d.batchCoord y a + d.offCoord y a = _
  match a with
  | ⟨0, _⟩ =>
    have hb : d.batchCoord y 0 = 0 := GatherDims.batchCoord_eq_zero _ _ _ List.not_mem_nil
    have ho : d.offCoord y 0 = 0 :=
      GatherDims.offCoord_eq_zero _ _ _ fun h => ((GatherDims.mem_sKept _ _).mp h).1 (List.mem_singleton.mpr rfl)
    have hs : d.start y v 0 = min (v i).toInt.toNat (1000000 - 1) := by
      unfold GatherDims.start
      rw [dif_pos (show (0 : Fin 2) ∈ d.startIndexMap from List.mem_singleton.mpr rfl)]
      rfl
    refine (congrArg₂ (· + ·) (congrArg₂ (· + ·) hs hb) ho).trans ?_
    show min (v i).toInt.toNat (1000000 - 1) + 0 + 0 = (v i).toNat % 1000000
    rw [toInt_small hi]
    omega
  | ⟨1, _⟩ =>
    have hb : d.batchCoord y 1 = 0 := GatherDims.batchCoord_eq_zero _ _ _ List.not_mem_nil
    have hs : d.start y v 1 = 0 := by
      unfold GatherDims.start
      exact dif_neg (show ¬ (1 : Fin 2) ∈ ([0] : List (Fin 2)) by decide)
    have ho : d.offCoord y 1 = (y 1).val := by
      unfold GatherDims.offCoord
      rw [dif_pos ((GatherDims.mem_sKept _ _).mpr ⟨show ¬ (1 : Fin 2) ∈ ([0] : List (Fin 2)) by decide, List.not_mem_nil⟩)]
      rfl
    refine (congrArg₂ (· + ·) (congrArg₂ (· + ·) hs hb) ho).trans ?_
    show 0 + 0 + (y 1).val = (y 1).val % 16
    omega

/-- With every index in range the reference's result is the rows the indices name. -/
theorem value {x : S16384.Idx → BitVec 32} (hx : ∀ i, (x i).toNat < 1000000) (t : S1000000x16.Idx → Elt F .f32) :
    select (broadcastInDim S16384x16 ![0] bcast_S16384_S16384x16_0
        (Host.reduce IntOp.andi (andi (cmpi .sge (wrapped x) (broadcastInDim S16384x1 ![] bcast_S_S16384x1 (constantI S_ 32 0#32)))
          (cmpi .sle (wrapped x) (broadcastInDim S16384x1 ![0, 1] bcast_S1x1_S16384x1_0_1
            (broadcastInDim S1x1 ![1] bcast_S1_S1x1_1 (constantI S1 32 999999#32))))) (constantI S_ 1 1#1)
          reducesTo_S16384x1_S16384_d1 h_S_))
      (Host.gather gather_S1000000x16_S16384x1_S16384x16_1_0_n_n_0_1_116 t (wrapped x))
      (broadcastInDim S16384x16 ![] bcast_S_S16384x16 (constant S_ .f32 0x7FC00000#32)) = looked x t := by
  funext y
  have hm : ∀ (c : S16384x16.Idx → BitVec 1) (a b : S16384x16.Idx → Elt F .f32), c y = 1#1 → select c a b y = a y :=
    fun c a b h => if_pos h
  refine (hm _ _ _ ?_).trans ?_
  · exact inside hx _
  have hv : ∀ i, (wrapped x i).toNat < 1000000 := fun i => by rw [wrapped_apply hx]; exact hx _
  obtain ⟨i, hi, e⟩ := gather_row t (wrapped x) hv y
  rw [e, wrapped_apply hx, hi]
  rfl

/-- The reference's run: with every index in range it ends with the rows the indices name, its arguments unchanged and
    every semaphore at zero. -/
theorem run (m : (ℓ : Loc nD τ sig) → Buf (Elt F) ℓ) (ρ : Dev nD → PrngReg)
    (hx : ∀ (c : Dev nD) (i : S16384.Idx), ((m ((c.tc : Thread nD τ).loc main_arg0) : S16384.Idx → BitVec 32) i).toNat < 1000000) :
    θ_run (defs (F := F)) (onTc (τ := τ) (main (F := F))) ⟨m, fun _ => 0, ρ⟩ fun r => (∀ c : Dev nD,
      r.2.mem ((c.tc : Thread nD τ).loc main_v0)
          = looked (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run (defs (F := F)) _ _).mono (fun r h => ⟨fun c => ⟨(h c).1.trans (value (hx c) _), (h c).2.1, (h c).2.2⟩,
    sem_eq_zero_of_no_sems (by decide) r.2⟩) (Value.run (F := F) m ρ)

end Cert.ReferenceIdeal.Look

end
-- ==== Proof.Whole.lean ====
/-
  The precondition as the proof uses it, and the program's result as the rows that the indices name.
-/
module

public import proofs.«01_k».proof.Proof.Launch
public import proofs.«01_k».proof.Proof.Lookup
public import proofs.«01_k».proof.Proof.Gen.Pre_in_range
public import proofs.«01_k».proof.Defs
public import Idealize.ShloMosaic.Lib.ReduceAll
public import Idealize.ShloMosaic.Lib.Pipeline.Value

@[expose] public section

noncomputable section

namespace Cert.KernelIdeal.Col

open Cert.KernelIdeal.Gen
open Idealize.ShloMosaic
open Idealize.SL.Sem

variable {F : FTy → Type} [FloatOps F]

/-! ## The precondition -/

/-- A truth value printed as one bit is one only if it is true. -/
theorem true_of_bit {b : Bool} (h : BitVec.ofBool b = 1#1) : b = true := by
  cases b
  · exact absurd h (by decide)
  · rfl

/-- A word that is at least zero and below a million as a signed word is below a million. -/
theorem small_of_signed {v : BitVec 32} (e : IntOp.andi (IntOp.cmpi .sge v 0#32) (IntOp.cmpi .slt v 1000000#32) = 1#1) : v.toNat < 1000000 := by
  obtain ⟨h0, h1⟩ := IntOp.andi_eq_one.1 e
  have l0 : (0#32).toInt ≤ v.toInt := BitVec.sle_iff_toInt_le.1 (true_of_bit h0)
  have l1 : v.toInt < (1000000#32).toInt := BitVec.slt_iff_toInt_lt.1 (true_of_bit h1)
  have c0 : (0#32).toInt = 0 := by decide
  have c1 : (1000000#32).toInt = 1000000 := by decide
  have hv := BitVec.toInt_eq_toNat_cond v
  have hl := v.isLt
  rw [c0] at l0
  rw [c1] at l1
  split at hv <;> omega

/-- The precondition says that every index is a row of the table. -/
theorem small_of_pre {x : Cert.Pre_in_range.S16384.Idx → BitVec 32} {t : Cert.Pre_in_range.S1000000x16.Idx → Elt F .f32}
    (h : Cert.Pre_in_range.fn (F := F) x t = fun _ => 1#1) (i : Cert.Pre_in_range.S16384.Idx) : (x i).toNat < 1000000 := by
  have : Subsingleton Cert.Pre_in_range.S_.Idx := ⟨fun a b => funext fun k => k.elim0⟩
  exact small_of_signed (Host.reduce_andi_all _ _ _ _ (fun k => k.elim0) (congrFun h _) i)

/-! ## The result -/

open Cert.ReferenceIdeal.Look (nth entry looked)

/-- Row `n / 512`, place `n % 512` of the call's indices is the `n`-th index. -/
theorem callX_at (m : (ℓ : Loc nD τ sig) → Buf (Elt F) ℓ) (d : Dev nD) {n : ℕ} (hn : n < 16384) :
    callX m d (at2 (n / 512) (n % 512)) = (m ((SparseCore.T d).loc main_arg0) : S16384.Idx → BitVec 32) (nth n) := by
  unfold callX shapeCast
  refine congrArg (m ((SparseCore.T d).loc main_arg0) : S16384.Idx → BitVec 32) (Shape.reshapeEquiv_eq_of_rowMajor _ ?_)
  refine (Shape.rowMajor_val_one (d := ![16384]) (nth n)).trans (Eq.trans ?_ (Shape.rowMajor_val_two (d := ![32, 512]) (at2 (n / 512) (n % 512))).symm)
  show n % 16384 = n / 512 % 32 * 512 + n % 512 % 512
  omega

/-- Row `l`, column `n` of the call's table is row `n`, column `l` of the table. -/
theorem callT_at (m : (ℓ : Loc nD τ sig) → Buf (Elt F) ℓ) (d : Dev nD) (l : Fin 16) (n : ℕ) :
    callT m d (cell l n) = (m ((SparseCore.T d).loc main_arg1) : S1000000x16.Idx → Elt F .f32) (entry n l.val) :=
  transpose_apply _ _ _ _ _ fun c => match c with
    | ⟨0, _⟩ => (show l.val % 16 = l.val by omega)
    | ⟨1, _⟩ => (show n % 1000000 = n % 1000000 from rfl)

/-- The program's result is the rows of the table that the indices name. -/
theorem res_eq (m : (ℓ : Loc nD τ sig) → Buf (Elt F) ℓ) (d : Dev nD) :
    res m d = looked (m ((SparseCore.T d).loc main_arg0) : S16384.Idx → BitVec 32) (m ((SparseCore.T d).loc main_arg1) : S1000000x16.Idx → Elt F .f32) := by
  funext y
  have h0 : (y 0).val < 16384 := (y 0).isLt
  let z : S16x16384.Idx := fun a => match a with
    | ⟨0, _⟩ => y 1
    | ⟨1, _⟩ => y 0
  refine (transpose_apply (t := S16384x16) _ (callY m d) _ y z fun c => match c with
    | ⟨0, _⟩ => rfl
    | ⟨1, _⟩ => rfl).trans ?_
  exact (congrArg (fun w : BitVec 32 => callT m d (cell (y 1) w.toNat)) (callX_at m d h0)).trans (callT_at m d (y 1) _)

end Cert.KernelIdeal.Col

end
-- ==== Proof.lean ====
/-
  The proof of `Cert.Claim` (Defs.lean): the three programs run to quiescence with their arguments unchanged, the
  idealization rewrote nothing, and the kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Whole
public import Idealize.ShloMosaic.Adequacy
public import Idealize.ShloMosaic.Init

@[expose] public section

noncomputable section

namespace Cert.Proof

open Idealize.ShloMosaic Idealize.SL.Sem

/-- The kernel as compiled runs to quiescence with its arguments unchanged: it is the same program as the one read over
    the extended reals, whose run is proved for any float values. -/
theorem frame_kernel : Cert.quiescent_Kernel := fun m ρ h =>
  (θ_run Cert.KernelIdeal.defs _ _).mono (fun _ h => ⟨fun c => (h.1 c).2, h.2⟩)
    (Cert.KernelIdeal.Col.run_main (F := Bits) m ρ fun d i => Cert.KernelIdeal.Col.small_of_pre (h d) i)

/-- Read over the extended reals it does so too. -/
theorem frame_ideal : Cert.quiescent_KernelIdeal := fun m ρ h =>
  (θ_run Cert.KernelIdeal.defs _ _).mono (fun _ h => ⟨fun c => (h.1 c).2, h.2⟩)
    (Cert.KernelIdeal.Col.run_main (F := Ideal) m ρ fun d i => Cert.KernelIdeal.Col.small_of_pre (h d) i)

/-- So does the reference. -/
theorem frame_reference : Cert.quiescent_ReferenceIdeal := fun m ρ h =>
  (θ_run Cert.ReferenceIdeal.defs _ _).mono (fun _ h => ⟨fun c => (h.1 c).2, h.2⟩)
    (Cert.ReferenceIdeal.Look.run (F := Ideal) m ρ fun c i => Cert.KernelIdeal.Col.small_of_pre (h c) i)

/-- From equal arguments in range the kernel's result is the reference's: the rows of the table that the indices name. -/
theorem same_result : Cert.algebraic_KernelIdeal_ReferenceIdeal := fun m ρ m' ρ' h e =>
  have hx : Cert.KernelIdeal.Col.InRange (F := Ideal) m := fun d i => Cert.KernelIdeal.Col.small_of_pre (h d) i
  ⟨fun c => Cert.KernelIdeal.Col.res m c,
    (θ_run Cert.KernelIdeal.defs _ _).mono (fun _ h => h.1) (Cert.KernelIdeal.Col.run_main (F := Ideal) m ρ hx),
    (θ_run Cert.ReferenceIdeal.defs _ _).mono
      (fun _ h c => ⟨(h.1 c).1.trans ((congrArg₂ Cert.ReferenceIdeal.Look.looked (e c).1 (e c).2).trans (Cert.KernelIdeal.Col.res_eq m c).symm), (h.1 c).2⟩)
      (Cert.ReferenceIdeal.Look.run (F := Ideal) m' ρ' fun c i => by rw [(e c).1]; exact hx c i)⟩

/-- The claim. -/
theorem claim : Cert.Claim := ⟨Cert.Kernel.Gen.facts, Cert.KernelIdeal.Gen.facts, Cert.ReferenceIdeal.Gen.facts, Cert.Pre_in_range.Gen.facts,
  frame_kernel, frame_ideal, frame_reference, trivial, same_result⟩

end Cert.Proof

end
